-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0))) = (fun _ => 1#1)

def Pre_InterpolatedIdeal (m : (ℓ : Loc Cert.InterpolatedIdeal.nD Cert.InterpolatedIdeal.τ Cert.InterpolatedIdeal.sig) → Buf (Elt Ideal) ℓ) : Prop :=
  True

def Pre_InterpolatedIdeal_unit_range [hPre_unit_range : Cert.Pre_unit_range.Facts] (m : (ℓ : Loc Cert.InterpolatedIdeal.nD Cert.InterpolatedIdeal.τ Cert.InterpolatedIdeal.sig) → Buf (Elt Ideal) ℓ) : Prop :=
  ∀ c : Dev Cert.InterpolatedIdeal.nD,
    (Cert.Pre_unit_range.fn (F := Ideal) (m ((c.tc : Thread Cert.InterpolatedIdeal.nD Cert.InterpolatedIdeal.τ).loc Cert.InterpolatedIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InterpolatedIdeal [hInterpolatedIdeal : Cert.InterpolatedIdeal.Facts] : Prop :=
  ∀ (m : (ℓ : Loc Cert.InterpolatedIdeal.nD Cert.InterpolatedIdeal.τ Cert.InterpolatedIdeal.sig) → Buf (Elt Ideal) ℓ) (g : Dev Cert.InterpolatedIdeal.nD → PrngReg), Pre_InterpolatedIdeal m →
    θ_run (Cert.InterpolatedIdeal.defs (F := Ideal)) (onTc (τ := Cert.InterpolatedIdeal.τ) (Cert.InterpolatedIdeal.main (F := Ideal))) ⟨m, fun _ => 0, g⟩ (fun r => (∀ c : Dev Cert.InterpolatedIdeal.nD,
      r.2.mem ((c.tc : Thread Cert.InterpolatedIdeal.nD Cert.InterpolatedIdeal.τ).loc Cert.InterpolatedIdeal.main_arg0) = m ((c.tc : Thread Cert.InterpolatedIdeal.nD Cert.InterpolatedIdeal.τ).loc Cert.InterpolatedIdeal.main_arg0))
      ∧ r.2.sem = fun _ => 0)

def quiescent_InterpolatedIdeal_pre_unit_range [hInterpolatedIdeal : Cert.InterpolatedIdeal.Facts] [hPre_unit_range : Cert.Pre_unit_range.Facts] : Prop :=
  ∀ (m : (ℓ : Loc Cert.InterpolatedIdeal.nD Cert.InterpolatedIdeal.τ Cert.InterpolatedIdeal.sig) → Buf (Elt Ideal) ℓ) (g : Dev Cert.InterpolatedIdeal.nD → PrngReg), Pre_InterpolatedIdeal_unit_range m →
    θ_run (Cert.InterpolatedIdeal.defs (F := Ideal)) (onTc (τ := Cert.InterpolatedIdeal.τ) (Cert.InterpolatedIdeal.main (F := Ideal))) ⟨m, fun _ => 0, g⟩ (fun r => (∀ c : Dev Cert.InterpolatedIdeal.nD,
      r.2.mem ((c.tc : Thread Cert.InterpolatedIdeal.nD Cert.InterpolatedIdeal.τ).loc Cert.InterpolatedIdeal.main_arg0) = m ((c.tc : Thread Cert.InterpolatedIdeal.nD Cert.InterpolatedIdeal.τ).loc Cert.InterpolatedIdeal.main_arg0))
      ∧ r.2.sem = fun _ => 0)

def preserves_Kernel_KernelIdeal : Prop :=
  IdealRules.named_const.Statement Cert.KernelIdeal.κ "c" .f32 0xBDE3314D#32 ((-((200 / 2601) * (Real.log 2)⁻¹) : ℝ) : EReal)

def algebraic_KernelIdeal_InterpolatedIdeal_pre_unit_range [hKernelIdeal : Cert.KernelIdeal.Facts] [hInterpolatedIdeal : Cert.InterpolatedIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.InterpolatedIdeal.nD Cert.InterpolatedIdeal.τ Cert.InterpolatedIdeal.sig) → Buf (Elt Ideal) ℓ) (g' : Dev Cert.InterpolatedIdeal.nD → PrngReg), Pre_KernelIdeal_unit_range m →
    (∀ c : Dev Cert.KernelIdeal.nD,
      m' ((c.tc : Thread Cert.InterpolatedIdeal.nD Cert.InterpolatedIdeal.τ).loc Cert.InterpolatedIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.InterpolatedIdeal.defs (F := Ideal)) (onTc (τ := Cert.InterpolatedIdeal.τ) (Cert.InterpolatedIdeal.main (F := Ideal))) ⟨m', fun _ => 0, g'⟩ (fun r => ∀ c : Dev Cert.InterpolatedIdeal.nD,
          r.2.mem ((c.tc : Thread Cert.InterpolatedIdeal.nD Cert.InterpolatedIdeal.τ).loc Cert.InterpolatedIdeal.main_v82) = v0 c
          ∧ r.2.mem ((c.tc : Thread Cert.InterpolatedIdeal.nD Cert.InterpolatedIdeal.τ).loc Cert.InterpolatedIdeal.main_arg0) = m' ((c.tc : Thread Cert.InterpolatedIdeal.nD Cert.InterpolatedIdeal.τ).loc Cert.InterpolatedIdeal.main_arg0))

def algebraic_KernelIdeal_ReferenceIdeal_on_at_knots_pre_unit_range [hKernelIdeal : Cert.KernelIdeal.Facts] [hReferenceIdeal : Cert.ReferenceIdeal.Facts] [hPre_unit_range : Cert.Pre_unit_range.Facts] [hOn_at_knots : Cert.On_at_knots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 1, 512, 512]⟩ : Shape).Idx, (Cert.On_at_knots.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 1, 512, 512]⟩ : Shape).Idx, (Cert.On_at_knots.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v38) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_reference_pre_unit_range [hKernelIdeal : Cert.KernelIdeal.Facts] [hPre_unit_range : Cert.Pre_unit_range.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near_reference.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v3))) = (fun _ => 1#1))

def Claim : Prop :=
  ∃ (hKernel : Cert.Kernel.Facts) (hKernelIdeal : Cert.KernelIdeal.Facts) (hReferenceIdeal : Cert.ReferenceIdeal.Facts) (hInterpolatedIdeal : Cert.InterpolatedIdeal.Facts) (hPre_unit_range : Cert.Pre_unit_range.Facts) (hPost_near_reference : Cert.Post_near_reference.Facts) (hOn_at_knots : Cert.On_at_knots.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ quiescent_InterpolatedIdeal (hInterpolatedIdeal := hInterpolatedIdeal)
    ∧ quiescent_InterpolatedIdeal_pre_unit_range (hInterpolatedIdeal := hInterpolatedIdeal) (hPre_unit_range := hPre_unit_range)
    ∧ preserves_Kernel_KernelIdeal
    ∧ algebraic_KernelIdeal_InterpolatedIdeal_pre_unit_range (hKernelIdeal := hKernelIdeal) (hInterpolatedIdeal := hInterpolatedIdeal) (hPre_unit_range := hPre_unit_range)
    ∧ algebraic_KernelIdeal_ReferenceIdeal_on_at_knots_pre_unit_range (hKernelIdeal := hKernelIdeal) (hReferenceIdeal := hReferenceIdeal) (hPre_unit_range := hPre_unit_range) (hOn_at_knots := hOn_at_knots)
    ∧ holds_KernelIdeal_near_reference_pre_unit_range (hKernelIdeal := hKernelIdeal) (hPre_unit_range := hPre_unit_range) (hPost_near_reference := hPost_near_reference)
-- ==== On_at_knots.lean ====
abbrev S4x1x512x512 : Shape := ⟨4, ![4, 1, 512, 512]⟩
abbrev S_ : Shape := ⟨0, ![]⟩

class Facts : Prop where
  bcast_S_S4x1x512x512 : S_.BroadcastsInDim S4x1x512x512 (![] : Fin 0 → Fin S4x1x512x512.rank)

variable [Facts]

def fn {F : FTy → Type} [FloatOps F] (main_arg0 : FVec F S4x1x512x512 .f32) : IVec S4x1x512x512 1 :=
  let main_cst : FVec F S_ .f32 := constant S_ .f32 0x45000000#32
  let main_v0 : FVec F S4x1x512x512 .f32 := broadcastInDim S4x1x512x512 ![] bcast_S_S4x1x512x512 main_cst
  let main_v1 : FVec F S4x1x512x512 .f32 := mulf main_arg0 main_v0
  let main_v2 : FVec F S4x1x512x512 .f32 := Host.floor main_v1
  let main_cst_0 : FVec F S_ .f32 := constant S_ .f32 0x45000000#32
  let main_v3 : FVec F S4x1x512x512 .f32 := broadcastInDim S4x1x512x512 ![] bcast_S_S4x1x512x512 main_cst_0
  let main_v4 : FVec F S4x1x512x512 .f32 := mulf main_arg0 main_v3
  let main_v5 : IVec S4x1x512x512 1 := cmpf .oeq main_v2 main_v4
  main_v5
-- ==== Post_near_reference.lean ====
abbrev S4x1x512x512 : Shape := ⟨4, ![4, 1, 512, 512]⟩
abbrev S_ : Shape := ⟨0, ![]⟩
abbrev S255 : Shape := ⟨1, ![255]⟩
abbrev S1 : Shape := ⟨1, ![1]⟩
abbrev S256 : Shape := ⟨1, ![256]⟩
abbrev S4x262144x1 : Shape := ⟨3, ![4, 262144, 1]⟩
abbrev S1x1x256 : Shape := ⟨3, ![1, 1, 256]⟩
abbrev S4x262144x256 : Shape := ⟨3, ![4, 262144, 256]⟩
abbrev S4x256 : Shape := ⟨2, ![4, 256]⟩
abbrev S4 : Shape := ⟨1, ![4]⟩
abbrev S4x1 : Shape := ⟨2, ![4, 1]⟩
abbrev S4x262144 : Shape := ⟨2, ![4, 262144]⟩
abbrev S4x1x256 : Shape := ⟨3, ![4, 1, 256]⟩

class Facts : Prop where
  bcast_S_S255 : S_.BroadcastsInDim S255 (![] : Fin 0 → Fin S255.rank)
  shapeCasts_S_S1 : S_.ShapeCasts S1
  bcast_S1_S255_0 : S1.BroadcastsInDim S255 (![0] : Fin 1 → Fin S255.rank)
  bcast_S_S1 : S_.BroadcastsInDim S1 (![] : Fin 0 → Fin S1.rank)
  concatenates_S255_S1_S256_d0 : Shape.Concatenates [S255, S1] S256 0
  shapeCasts_S4x1x512x512_S4x262144x1 : S4x1x512x512.ShapeCasts S4x262144x1
  bcast_S256_S1x1x256_2 : S256.BroadcastsInDim S1x1x256 (![2] : Fin 1 → Fin S1x1x256.rank)
  bcast_S4x262144x1_S4x262144x256_0_1_2 : S4x262144x1.BroadcastsInDim S4x262144x256 (![0, 1, 2] : Fin 3 → Fin S4x262144x256.rank)
  bcast_S1x1x256_S4x262144x256_0_1_2 : S1x1x256.BroadcastsInDim S4x262144x256 (![0, 1, 2] : Fin 3 → Fin S4x262144x256.rank)
  bcast_S_S4x262144x256 : S_.BroadcastsInDim S4x262144x256 (![] : Fin 0 → Fin S4x262144x256.rank)
  reducesTo_S4x262144x256_S4x256_d1 : S4x262144x256.ReducesTo [1] S4x256
  h_S_ : 0 < S_.numel
  reducesTo_S4x256_S4_d1 : S4x256.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x256_0_1 : S4x1.BroadcastsInDim S4x256 (![0, 1] : Fin 2 → Fin S4x256.rank)
  bcast_S_S_ : S_.BroadcastsInDim S_ (![] : Fin 0 → Fin S_.rank)
  reduceWindows_S4x256_S4x256_w1s1p0_0_w256s1p255_0 : S4x256.ReduceWindows (![1, 256] : Fin 2 → Nat) ![1, 1] ![0, 255] ![0, 0] S4x256
  slices_S4x256_S4x1_0_0 : S4x256.Slices ![0, 0] S4x1
  reducesTo_S4x262144x256_S4x262144_d2 : S4x262144x256.ReducesTo [2] S4x262144
  bcast_S4x262144_S4x262144x1_0_1 : S4x262144.BroadcastsInDim S4x262144x1 (![0, 1] : Fin 2 → Fin S4x262144x1.rank)
  bcast_S_S4x262144x1 : S_.BroadcastsInDim S4x262144x1 (![] : Fin 0 → Fin S4x262144x1.rank)
  bcast_S4x256_S4x1x256_0_2 : S4x256.BroadcastsInDim S4x1x256 (![0, 2] : Fin 2 → Fin S4x1x256.rank)
  bcast_S4x1x256_S4x262144x256_0_1_2 : S4x1x256.BroadcastsInDim S4x262144x256 (![0, 1, 2] : Fin 3 → Fin S4x262144x256.rank)
  shapeCasts_S4x262144_S4x1x512x512 : S4x262144.ShapeCasts S4x1x512x512
  bcast_S_S4x1x512x512 : S_.BroadcastsInDim S4x1x512x512 (![] : Fin 0 → Fin S4x1x512x512.rank)

variable [Facts]

def fn_linspace {F : FTy → Type} [FloatOps F] (arg0 : FVec F S_ .f32) (arg1 : FVec F S_ .f32) : FVec F S256 .f32 :=
  let v0 : FVec F S_ .f32 := id arg0
  let v1 : FVec F S_ .f32 := id arg1
  let v2 : FVec F S_ .f32 := subf v1 v0
  let cst : FVec F S_ .f32 := constant S_ .f32 0x437F0000#32
  let v3 : FVec F S_ .f32 := Host.divf v2 cst
  let v4 : FVec F S255 .f32 := sitofp .f32 (iotaInDim S255 32 0)
  let cst_0 : FVec F S_ .f32 := constant S_ .f32 0x437F0000#32
  let v5 : FVec F S255 .f32 := broadcastInDim S255 ![] bcast_S_S255 cst_0
  let v6 : FVec F S255 .f32 := Host.divf v4 v5
  let v7 : FVec F S1 .f32 := shapeCast S1 v0 shapeCasts_S_S1
  let cst_1 : FVec F S_ .f32 := constant S_ .f32 0x3F800000#32
  let v8 : FVec F S255 .f32 := broadcastInDim S255 ![] bcast_S_S255 cst_1
  let v9 : FVec F S255 .f32 := subf v8 v6
  let v10 : FVec F S255 .f32 := broadcastInDim S255 ![0] bcast_S1_S255_0 v7
  let v11 : FVec F S255 .f32 := mulf v10 v9
  let v12 : FVec F S1 .f32 := shapeCast S1 v1 shapeCasts_S_S1
  let v13 : FVec F S255 .f32 := broadcastInDim S255 ![0] bcast_S1_S255_0 v12
  let v14 : FVec F S255 .f32 := mulf v13 v6
  let v15 : FVec F S255 .f32 := addf v11 v14
  let v16 : FVec F S1 .f32 := broadcastInDim S1 ![] bcast_S_S1 v1
  let v17 : FVec F S256 .f32 := (fun a b => concatenate S256 0 [⟨S255, a⟩, ⟨S1, b⟩] concatenates_S255_S1_S256_d0) v15 v16
  v17

def fn_cumsum_0 {F : FTy → Type} [FloatOps F] (arg0 : FVec F S4x256 .f32) : FVec F S4x256 .f32 :=
  let cst : FVec F S_ .f32 := constant S_ .f32 0x00000000#32
  let v0 : FVec F S_ .f32 := broadcastInDim S_ ![] bcast_S_S_ cst
  let v1 : FVec F S4x256 .f32 := (fun x v => Host.reduceWindowAdd ![1, 256] ![1, 1] ![0, 255] ![0, 0] x v reduceWindows_S4x256_S4x256_w1s1p0_0_w256s1p255_0 h_S_) arg0 v0
  v1

def fn_cumsum {F : FTy → Type} [FloatOps F] (arg0 : FVec F S4x256 .f32) : FVec F S4x256 .f32 :=
  let v0 : FVec F S4x256 .f32 := fn_cumsum_0 (F := F) arg0
  v0

def fn_part2 {F : FTy → Type} [FloatOps F] (main_arg1 : FVec F S4x1x512x512 .f32) (main_v36 : FVec F S4x262144x256 .f32) (main_cst_9 : FVec F S_ .f32) : IVec S4x1x512x512 1 :=
  let main_v37 : FVec F S4x262144 .f32 := (fun x v => Host.reduceAdd x v reducesTo_S4x262144x256_S4x262144_d2 h_S_) main_v36 main_cst_9
  let main_v38 : FVec F S4x1x512x512 .f32 := shapeCast S4x1x512x512 main_v37 shapeCasts_S4x262144_S4x1x512x512
  let main_v39 : FVec F S4x1x512x512 .f32 := subf main_arg1 main_v38
  let main_v40 : FVec F S4x1x512x512 .f32 := Host.absf main_v39
  let main_cst_10 : FVec F S_ .f32 := constant S_ .f32 0x3A800000#32
  let main_v41 : FVec F S4x1x512x512 .f32 := broadcastInDim S4x1x512x512 ![] bcast_S_S4x1x512x512 main_cst_10
  let main_v42 : IVec S4x1x512x512 1 := cmpf .ole main_v40 main_v41
  main_v42

def fn_part1 {F : FTy → Type} [FloatOps F] (main_arg1 : FVec F S4x1x512x512 .f32) (main_v10 : FVec F S4x262144x256 .f32) (main_v17 : FVec F S4x256 .f32) : IVec S4x1x512x512 1 :=
  let main_v18 : FVec F S4x256 .f32 := fn_cumsum (F := F) main_v17
  let main_v19 : FVec F S4x1 .f32 := (extractStridedSlice S4x1 ![0, 0] · slices_S4x256_S4x1_0_0) main_v18
  let main_v20 : FVec F S4x256 .f32 := broadcastInDim S4x256 ![0, 1] bcast_S4x1_S4x256_0_1 main_v19
  let main_v21 : FVec F S4x256 .f32 := subf main_v18 main_v20
  let main_cst_5 : FVec F S_ .f32 := constant S_ .f32 0x3F800000#32
  let main_v22 : FVec F S4x1 .f32 := broadcastInDim S4x1 ![] bcast_S_S4x1 main_cst_5
  let main_v23 : FVec F S4x1 .f32 := subf main_v22 main_v19
  let main_cst_6 : FVec F S_ .f32 := constant S_ .f32 0x2EDBE6FF#32
  let main_v24 : FVec F S4x1 .f32 := broadcastInDim S4x1 ![] bcast_S_S4x1 main_cst_6
  let main_v25 : FVec F S4x1 .f32 := addf main_v23 main_v24
  let main_v26 : FVec F S4x256 .f32 := broadcastInDim S4x256 ![0, 1] bcast_S4x1_S4x256_0_1 main_v25
  let main_v27 : FVec F S4x256 .f32 := Host.divf main_v21 main_v26
  let main_cst_7 : FVec F S_ .f32 := constant S_ .f32 0x00000000#32
  let main_v28 : FVec F S4x262144 .f32 := (fun x v => Host.reduceAdd x v reducesTo_S4x262144x256_S4x262144_d2 h_S_) main_v10 main_cst_7
  let main_v29 : FVec F S4x262144x1 .f32 := broadcastInDim S4x262144x1 ![0, 1] bcast_S4x262144_S4x262144x1_0_1 main_v28
  let main_cst_8 : FVec F S_ .f32 := constant S_ .f32 0x2EDBE6FF#32
  let main_v30 : FVec F S4x262144x1 .f32 := broadcastInDim S4x262144x1 ![] bcast_S_S4x262144x1 main_cst_8
  let main_v31 : FVec F S4x262144x1 .f32 := addf main_v29 main_v30
  let main_v32 : FVec F S4x262144x256 .f32 := broadcastInDim S4x262144x256 ![0, 1, 2] bcast_S4x262144x1_S4x262144x256_0_1_2 main_v31
  let main_v33 : FVec F S4x262144x256 .f32 := Host.divf main_v10 main_v32
  let main_v34 : FVec F S4x1x256 .f32 := broadcastInDim S4x1x256 ![0, 2] bcast_S4x256_S4x1x256_0_2 main_v27
  let main_v35 : FVec F S4x262144x256 .f32 := broadcastInDim S4x262144x256 ![0, 1, 2] bcast_S4x1x256_S4x262144x256_0_1_2 main_v34
  let main_v36 : FVec F S4x262144x256 .f32 := mulf main_v33 main_v35
  let main_cst_9 : FVec F S_ .f32 := constant S_ .f32 0x00000000#32
  fn_part2 (F := F) main_arg1 main_v36 main_cst_9

def fn {F : FTy → Type} [FloatOps F] (main_arg0 : FVec F S4x1x512x512 .f32) (main_arg1 : FVec F S4x1x512x512 .f32) : IVec S4x1x512x512 1 :=
  let main_cst : FVec F S_ .f32 := constant S_ .f32 0x00000000#32
  let main_cst_0 : FVec F S_ .f32 := constant S_ .f32 0x3F800000#32
  let main_v0 : FVec F S256 .f32 := fn_linspace (F := F) main_cst main_cst_0
  let main_v1 : FVec F S4x262144x1 .f32 := shapeCast S4x262144x1 main_arg0 shapeCasts_S4x1x512x512_S4x262144x1
  let main_v2 : FVec F S1x1x256 .f32 := broadcastInDim S1x1x256 ![2] bcast_S256_S1x1x256_2 main_v0
  let main_v3 : FVec F S4x262144x256 .f32 := broadcastInDim S4x262144x256 ![0, 1, 2] bcast_S4x262144x1_S4x262144x256_0_1_2 main_v1
  let main_v4 : FVec F S4x262144x256 .f32 := broadcastInDim S4x262144x256 ![0, 1, 2] bcast_S1x1x256_S4x262144x256_0_1_2 main_v2
  let main_v5 : FVec F S4x262144x256 .f32 := subf main_v3 main_v4
  let main_v6 : FVec F S4x262144x256 .f32 := mulf main_v5 main_v5
  let main_v7 : FVec F S4x262144x256 .f32 := Host.negf main_v6
  let main_cst_1 : FVec F S_ .f32 := constant S_ .f32 0x459C4000#32
  let main_v8 : FVec F S4x262144x256 .f32 := broadcastInDim S4x262144x256 ![] bcast_S_S4x262144x256 main_cst_1
  let main_v9 : FVec F S4x262144x256 .f32 := mulf main_v7 main_v8
  let main_v10 : FVec F S4x262144x256 .f32 := Host.exp main_v9
  let main_cst_2 : FVec F S_ .f32 := constant S_ .f32 0x00000000#32
  let main_v11 : FVec F S4x256 .f32 := (fun x v => Host.reduceAdd x v reducesTo_S4x262144x256_S4x256_d1 h_S_) main_v10 main_cst_2
  let main_cst_3 : FVec F S_ .f32 := constant S_ .f32 0x00000000#32
  let main_v12 : FVec F S4 .f32 := (fun x v => Host.reduceAdd x v reducesTo_S4x256_S4_d1 h_S_) main_v11 main_cst_3
  let main_v13 : FVec F S4x1 .f32 := broadcastInDim S4x1 ![0] bcast_S4_S4x1_0 main_v12
  let main_cst_4 : FVec F S_ .f32 := constant S_ .f32 0x2EDBE6FF#32
  let main_v14 : FVec F S4x1 .f32 := broadcastInDim S4x1 ![] bcast_S_S4x1 main_cst_4
  let main_v15 : FVec F S4x1 .f32 := addf main_v13 main_v14
  let main_v16 : FVec F S4x256 .f32 := broadcastInDim S4x256 ![0, 1] bcast_S4x1_S4x256_0_1 main_v15
  let main_v17 : FVec F S4x256 .f32 := Host.divf main_v11 main_v16
  fn_part1 (F := F) main_arg1 main_v10 main_v17
-- ==== Pre_unit_range.lean ====
abbrev S4x1x512x512 : Shape := ⟨4, ![4, 1, 512, 512]⟩
abbrev S_ : Shape := ⟨0, ![]⟩

class Facts : Prop where
  bcast_S_S4x1x512x512 : S_.BroadcastsInDim S4x1x512x512 (![] : Fin 0 → Fin S4x1x512x512.rank)
  reducesTo_S4x1x512x512_S_d0_1_2_3 : S4x1x512x512.ReducesTo [0, 1, 2, 3] S_
  h_S_ : 0 < S_.numel

variable [Facts]

def fn {F : FTy → Type} [FloatOps F] (main_arg0 : FVec F S4x1x512x512 .f32) : IVec S_ 1 :=
  let main_cst : FVec F S_ .f32 := constant S_ .f32 0x00000000#32
  let main_v0 : FVec F S4x1x512x512 .f32 := broadcastInDim S4x1x512x512 ![] bcast_S_S4x1x512x512 main_cst
  let main_v1 : IVec S4x1x512x512 1 := cmpf .oge main_arg0 main_v0
  let main_cst_0 : FVec F S_ .f32 := constant S_ .f32 0x3F800000#32
  let main_v2 : FVec F S4x1x512x512 .f32 := broadcastInDim S4x1x512x512 ![] bcast_S_S4x1x512x512 main_cst_0
  let main_v3 : IVec S4x1x512x512 1 := cmpf .olt main_arg0 main_v2
  let main_v4 : IVec S4x1x512x512 1 := andi main_v1 main_v3
  let main_c : IVec S_ 1 := constantI S_ 1 1#1
  let main_v5 : IVec S_ 1 := (fun x v => Host.reduce IntOp.andi x v reducesTo_S4x1x512x512_S_d0_1_2_3 h_S_) main_v4 main_c
  main_v5
-- ==== Kernel.lean ====
abbrev S4x1x512x512 : Shape := ⟨4, ![4, 1, 512, 512]⟩
abbrev S4x2048x128 : Shape := ⟨3, ![4, 2048, 128]⟩
abbrev S4x256x128 : Shape := ⟨3, ![4, 256, 128]⟩
abbrev S1x32x128 : Shape := ⟨3, ![1, 32, 128]⟩
abbrev S1x256x128 : Shape := ⟨3, ![1, 256, 128]⟩
abbrev S32x128 : Shape := ⟨2, ![32, 128]⟩
abbrev S256x128 : Shape := ⟨2, ![256, 128]⟩
abbrev S1x128 : Shape := ⟨2, ![1, 128]⟩
abbrev S17x128 : Shape := ⟨2, ![17, 128]⟩
abbrev S128x128 : Shape := ⟨2, ![128, 128]⟩
abbrev S256x256 : Shape := ⟨2, ![256, 256]⟩
abbrev S128 : Shape := ⟨1, ![128]⟩
abbrev S16x128 : Shape := ⟨2, ![16, 128]⟩
abbrev S17x127 : Shape := ⟨2, ![17, 127]⟩
abbrev S17x1 : Shape := ⟨2, ![17, 1]⟩
abbrev S32x128x1 : Shape := ⟨3, ![32, 128, 1]⟩

abbrev nBuf : Space → Nat
  | .hbm => 5
  | .vmem => 12
  | .smem => 0
  | _ => 0

abbrev bufTy : (tb : Table) → Fin (tcTables nBuf tb) → BufTy
  | .hbm, ⟨0, _⟩ => ⟨S4x1x512x512, .f32⟩
  | .hbm, ⟨1, _⟩ => ⟨S4x2048x128, .f32⟩
  | .hbm, ⟨2, _⟩ => ⟨S4x256x128, .f32⟩
  | .hbm, ⟨3, _⟩ => ⟨S4x2048x128, .f32⟩
  | .hbm, ⟨4, _⟩ => ⟨S4x1x512x512, .f32⟩
  | .local _ .vmem, ⟨0, _⟩ => ⟨S1x32x128, .f32⟩
  | .local _ .vmem, ⟨1, _⟩ => ⟨S1x32x128, .f32⟩
  | .local _ .vmem, ⟨2, _⟩ => ⟨S1x256x128, .f32⟩
  | .local _ .vmem, ⟨3, _⟩ => ⟨S1x256x128, .f32⟩
  | .local _ .vmem, ⟨4, _⟩ => ⟨S1x32x128, .f32⟩
  | .local _ .vmem, ⟨5, _⟩ => ⟨S1x32x128, .f32⟩
  | .local _ .vmem, ⟨6, _⟩ => ⟨S1x256x128, .f32⟩
  | .local _ .vmem, ⟨7, _⟩ => ⟨S1x256x128, .f32⟩
  | .local _ .vmem, ⟨8, _⟩ => ⟨S1x32x128, .f32⟩
  | .local _ .vmem, ⟨9, _⟩ => ⟨S1x32x128, .f32⟩
  | .local _ .vmem, ⟨10, _⟩ => ⟨S17x128, .f32⟩
  | .local _ .vmem, ⟨11, _⟩ => ⟨S17x128, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "c" => some ((-((200 / 2601) * (Real.log 2)⁻¹) : ℝ) : EReal)
  | _ => none
-- ==== ReferenceIdeal.lean ====
abbrev S4x1x512x512 : Shape := ⟨4, ![4, 1, 512, 512]⟩
abbrev S_ : Shape := ⟨0, ![]⟩
abbrev S255 : Shape := ⟨1, ![255]⟩
abbrev S1 : Shape := ⟨1, ![1]⟩
abbrev S256 : Shape := ⟨1, ![256]⟩
abbrev S4x262144x1 : Shape := ⟨3, ![4, 262144, 1]⟩
abbrev S1x1x256 : Shape := ⟨3, ![1, 1, 256]⟩
abbrev S4x262144x256 : Shape := ⟨3, ![4, 262144, 256]⟩
abbrev S4x256 : Shape := ⟨2, ![4, 256]⟩
abbrev S4 : Shape := ⟨1, ![4]⟩
abbrev S4x1 : Shape := ⟨2, ![4, 1]⟩
abbrev S4x262144 : Shape := ⟨2, ![4, 262144]⟩
abbrev S4x1x256 : Shape := ⟨3, ![4, 1, 256]⟩

abbrev nBuf : Space → Nat
  | .hbm => 73
  | .vmem => 0
  | .smem => 0
  | _ => 0

abbrev bufTy : (tb : Table) → Fin (tcTables nBuf tb) → BufTy
  | .hbm, ⟨0, _⟩ => ⟨S4x1x512x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S255, .f32⟩
  | .hbm, ⟨9, _⟩ => ⟨S_, .f32⟩
  | .hbm, ⟨10, _⟩ => ⟨S255, .f32⟩
  | .hbm, ⟨11, _⟩ => ⟨S255, .f32⟩
  | .hbm, ⟨12, _⟩ => ⟨S1, .f32⟩
  | .hbm, ⟨13, _⟩ => ⟨S_, .f32⟩
  | .hbm, ⟨14, _⟩ => ⟨S255, .f32⟩
  | .hbm, ⟨15, _⟩ => ⟨S255, .f32⟩
  | .hbm, ⟨16, _⟩ => ⟨S255, .f32⟩
  | .hbm, ⟨17, _⟩ => ⟨S255, .f32⟩
  | .hbm, ⟨18, _⟩ => ⟨S1, .f32⟩
  | .hbm, ⟨19, _⟩ => ⟨S255, .f32⟩
  | .hbm, ⟨20, _⟩ => ⟨S255, .f32⟩
  | .hbm, ⟨21, _⟩ => ⟨S255, .f32⟩
  | .hbm, ⟨22, _⟩ => ⟨S1, .f32⟩
  | .hbm, ⟨23, _⟩ => ⟨S256, .f32⟩
  | .hbm, ⟨24, _⟩ => ⟨S4x262144x1, .f32⟩
  | .hbm, ⟨25, _⟩ => ⟨S1x1x256, .f32⟩
  | .hbm, ⟨26, _⟩ => ⟨S4x262144x256, .f32⟩
  | .hbm, ⟨27, _⟩ => ⟨S4x262144x256, .f32⟩
  | .hbm, ⟨28, _⟩ => ⟨S4x262144x256, .f32⟩
  | .hbm, ⟨29, _⟩ => ⟨S4x262144x256, .f32⟩
  | .hbm, ⟨30, _⟩ => ⟨S4x262144x256, .f32⟩
  | .hbm, ⟨31, _⟩ => ⟨S_, .f32⟩
  | .hbm, ⟨32, _⟩ => ⟨S4x262144x256, .f32⟩
  | .hbm, ⟨33, _⟩ => ⟨S4x262144x256, .f32⟩
  | .hbm, ⟨34, _⟩ => ⟨S4x262144x256, .f32⟩
  | .hbm, ⟨35, _⟩ => ⟨S_, .f32⟩
  | .hbm, ⟨36, _⟩ => ⟨S4x256, .f32⟩
  | .hbm, ⟨37, _⟩ => ⟨S_, .f32⟩
  | .hbm, ⟨38, _⟩ => ⟨S4, .f32⟩
  | .hbm, ⟨39, _⟩ => ⟨S4x1, .f32⟩
  | .hbm, ⟨40, _⟩ => ⟨S_, .f32⟩
  | .hbm, ⟨41, _⟩ => ⟨S4x1, .f32⟩
  | .hbm, ⟨42, _⟩ => ⟨S4x1, .f32⟩
  | .hbm, ⟨43, _⟩ => ⟨S4x256, .f32⟩
  | .hbm, ⟨44, _⟩ => ⟨S4x256, .f32⟩
  | .hbm, ⟨45, _⟩ => ⟨S_, .f32⟩
  | .hbm, ⟨46, _⟩ => ⟨S_, .f32⟩
  | .hbm, ⟨47, _⟩ => ⟨S4x256, .f32⟩
  | .hbm, ⟨48, _⟩ => ⟨S4x1, .f32⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S4x1, .f32⟩
  | .hbm, ⟨53, _⟩ => ⟨S4x1, .f32⟩
  | .hbm, ⟨54, _⟩ => ⟨S_, .f32⟩
  | .hbm, ⟨55, _⟩ => ⟨S4x1, .f32⟩
  | .hbm, ⟨56, _⟩ => ⟨S4x1, .f32⟩
  | .hbm, ⟨57, _⟩ => ⟨S4x256, .f32⟩
  | .hbm, ⟨58, _⟩ => ⟨S4x256, .f32⟩
  | .hbm, ⟨59, _⟩ => ⟨S_, .f32⟩
  | .hbm, ⟨60, _⟩ => ⟨S4x262144, .f32⟩
  | .hbm, ⟨61, _⟩ => ⟨S4x262144x1, .f32⟩
  | .hbm, ⟨62, _⟩ => ⟨S_, .f32⟩
  | .hbm, ⟨63, _⟩ => ⟨S4x262144x1, .f32⟩
  | .hbm, ⟨64, _⟩ => ⟨S4x262144x1, .f32⟩
  | .hbm, ⟨65, _⟩ => ⟨S4x262144x256, .f32⟩
  | .hbm, ⟨66, _⟩ => ⟨S4x262144x256, .f32⟩
  | .hbm, ⟨67, _⟩ => ⟨S4x1x256, .f32⟩
  | .hbm, ⟨68, _⟩ => ⟨S4x262144x256, .f32⟩
  | .hbm, ⟨69, _⟩ => ⟨S4x262144x256, .f32⟩
  | .hbm, ⟨70, _⟩ => ⟨S_, .f32⟩
  | .hbm, ⟨71, _⟩ => ⟨S4x262144, .f32⟩
  | .hbm, ⟨72, _⟩ => ⟨S4x1x512x512, .f32⟩
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call1_call0_cst : Ref sig .tc := ⟨.hbm, 45, rfl⟩
abbrev main_call1_call0_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]
-- ==== InterpolatedIdeal.lean ====
abbrev S4x1x512x512 : Shape := ⟨4, ![4, 1, 512, 512]⟩
abbrev S_ : Shape := ⟨0, ![]⟩
abbrev S255 : Shape := ⟨1, ![255]⟩
abbrev S1 : Shape := ⟨1, ![1]⟩
abbrev S256 : Shape := ⟨1, ![256]⟩
abbrev S4x262144x1 : Shape := ⟨3, ![4, 262144, 1]⟩
abbrev S1x1x256 : Shape := ⟨3, ![1, 1, 256]⟩
abbrev S4x262144x256 : Shape := ⟨3, ![4, 262144, 256]⟩
abbrev S4x256 : Shape := ⟨2, ![4, 256]⟩
abbrev S4 : Shape := ⟨1, ![4]⟩
abbrev S4x1 : Shape := ⟨2, ![4, 1]⟩
abbrev S4x262144 : Shape := ⟨2, ![4, 262144]⟩
abbrev S4x1x256 : Shape := ⟨3, ![4, 1, 256]⟩

abbrev nBuf : Space → Nat
  | .hbm => 127
  | .vmem => 0
  | .smem => 0
  | _ => 0

abbrev bufTy : (tb : Table) → Fin (tcTables nBuf tb) → BufTy
  | .hbm, ⟨0, _⟩ => ⟨S4x1x512x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S255, .f32⟩
  | .hbm, ⟨9, _⟩ => ⟨S_, .f32⟩
  | .hbm, ⟨10, _⟩ => ⟨S255, .f32⟩
  | .hbm, ⟨11, _⟩ => ⟨S255, .f32⟩
  | .hbm, ⟨12, _⟩ => ⟨S1, .f32⟩
  | .hbm, ⟨13, _⟩ => ⟨S_, .f32⟩
  | .hbm, ⟨14, _⟩ => ⟨S255, .f32⟩
  | .hbm, ⟨15, _⟩ => ⟨S255, .f32⟩
  | .hbm, ⟨16, _⟩ => ⟨S255, .f32⟩
  | .hbm, ⟨17, _⟩ => ⟨S255, .f32⟩
  | .hbm, ⟨18, _⟩ => ⟨S1, .f32⟩
  | .hbm, ⟨19, _⟩ => ⟨S255, .f32⟩
  | .hbm, ⟨20, _⟩ => ⟨S255, .f32⟩
  | .hbm, ⟨21, _⟩ => ⟨S255, .f32⟩
  | .hbm, ⟨22, _⟩ => ⟨S1, .f32⟩
  | .hbm, ⟨23, _⟩ => ⟨S256, .f32⟩
  | .hbm, ⟨24, _⟩ => ⟨S4x262144x1, .f32⟩
  | .hbm, ⟨25, _⟩ => ⟨S1x1x256, .f32⟩
  | .hbm, ⟨26, _⟩ => ⟨S4x262144x256, .f32⟩
  | .hbm, ⟨27, _⟩ => ⟨S4x262144x256, .f32⟩
  | .hbm, ⟨28, _⟩ => ⟨S4x262144x256, .f32⟩
  | .hbm, ⟨29, _⟩ => ⟨S4x262144x256, .f32⟩
  | .hbm, ⟨30, _⟩ => ⟨S4x262144x256, .f32⟩
  | .hbm, ⟨31, _⟩ => ⟨S_, .f32⟩
  | .hbm, ⟨32, _⟩ => ⟨S4x262144x256, .f32⟩
  | .hbm, ⟨33, _⟩ => ⟨S4x262144x256, .f32⟩
  | .hbm, ⟨34, _⟩ => ⟨S4x262144x256, .f32⟩
  | .hbm, ⟨35, _⟩ => ⟨S_, .f32⟩
  | .hbm, ⟨36, _⟩ => ⟨S4x256, .f32⟩
  | .hbm, ⟨37, _⟩ => ⟨S_, .f32⟩
  | .hbm, ⟨38, _⟩ => ⟨S4, .f32⟩
  | .hbm, ⟨39, _⟩ => ⟨S4x1, .f32⟩
  | .hbm, ⟨40, _⟩ => ⟨S_, .f32⟩
  | .hbm, ⟨41, _⟩ => ⟨S4x1, .f32⟩
  | .hbm, ⟨42, _⟩ => ⟨S4x1, .f32⟩
  | .hbm, ⟨43, _⟩ => ⟨S4x256, .f32⟩
  | .hbm, ⟨44, _⟩ => ⟨S4x256, .f32⟩
  | .hbm, ⟨45, _⟩ => ⟨S_, .f32⟩
  | .hbm, ⟨46, _⟩ => ⟨S_, .f32⟩
  | .hbm, ⟨47, _⟩ => ⟨S4x256, .f32⟩
  | .hbm, ⟨48, _⟩ => ⟨S4x1, .f32⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S4x1, .f32⟩
  | .hbm, ⟨53, _⟩ => ⟨S4x1, .f32⟩
  | .hbm, ⟨54, _⟩ => ⟨S_, .f32⟩
  | .hbm, ⟨55, _⟩ => ⟨S4x1, .f32⟩
  | .hbm, ⟨56, _⟩ => ⟨S4x1, .f32⟩
  | .hbm, ⟨57, _⟩ => ⟨S4x256, .f32⟩
  | .hbm, ⟨58, _⟩ => ⟨S4x256, .f32⟩
  | .hbm, ⟨59, _⟩ => ⟨S_, .f32⟩
  | .hbm, ⟨60, _⟩ => ⟨S4x262144x1, .f32⟩
  | .hbm, ⟨61, _⟩ => ⟨S4x262144x1, .f32⟩
  | .hbm, ⟨62, _⟩ => ⟨S4x262144x1, .f32⟩
  | .hbm, ⟨63, _⟩ => ⟨S_, .f32⟩
  | .hbm, ⟨64, _⟩ => ⟨S4x262144x1, .f32⟩
  | .hbm, ⟨65, _⟩ => ⟨S4x262144x1, .f32⟩
  | .hbm, ⟨66, _⟩ => ⟨S1x1x256, .f32⟩
  | .hbm, ⟨67, _⟩ => ⟨S4x262144x256, .f32⟩
  | .hbm, ⟨68, _⟩ => ⟨S4x262144x256, .f32⟩
  | .hbm, ⟨69, _⟩ => ⟨S4x262144x256, .f32⟩
  | .hbm, ⟨70, _⟩ => ⟨S4x262144x256, .f32⟩
  | .hbm, ⟨71, _⟩ => ⟨S4x262144x256, .f32⟩
  | .hbm, ⟨72, _⟩ => ⟨S_, .f32⟩
  | .hbm, ⟨73, _⟩ => ⟨S4x262144x256, .f32⟩
  | .hbm, ⟨74, _⟩ => ⟨S4x262144x256, .f32⟩
  | .hbm, ⟨75, _⟩ => ⟨S4x262144x256, .f32⟩
  | .hbm, ⟨76, _⟩ => ⟨S_, .f32⟩
  | .hbm, ⟨77, _⟩ => ⟨S4x262144, .f32⟩
  | .hbm, ⟨78, _⟩ => ⟨S4x262144x1, .f32⟩
  | .hbm, ⟨79, _⟩ => ⟨S_, .f32⟩
  | .hbm, ⟨80, _⟩ => ⟨S4x262144x1, .f32⟩
  | .hbm, ⟨81, _⟩ => ⟨S4x262144x1, .f32⟩
  | .hbm, ⟨82, _⟩ => ⟨S4x262144x256, .f32⟩
  | .hbm, ⟨83, _⟩ => ⟨S4x262144x256, .f32⟩
  | .hbm, ⟨84, _⟩ => ⟨S4x1x256, .f32⟩
  | .hbm, ⟨85, _⟩ => ⟨S4x262144x256, .f32⟩
  | .hbm, ⟨86, _⟩ => ⟨S4x262144x256, .f32⟩
  | .hbm, ⟨87, _⟩ => ⟨S_, .f32⟩
  | .hbm, ⟨88, _⟩ => ⟨S4x262144, .f32⟩
  | .hbm, ⟨89, _⟩ => ⟨S_, .f32⟩
  | .hbm, ⟨90, _⟩ => ⟨S4x262144x1, .f32⟩
  | .hbm, ⟨91, _⟩ => ⟨S4x262144x1, .f32⟩
  | .hbm, ⟨92, _⟩ => ⟨S_, .f32⟩
  | .hbm, ⟨93, _⟩ => ⟨S4x262144x1, .f32⟩
  | .hbm, ⟨94, _⟩ => ⟨S4x262144x1, .f32⟩
  | .hbm, ⟨95, _⟩ => ⟨S1x1x256, .f32⟩
  | .hbm, ⟨96, _⟩ => ⟨S4x262144x256, .f32⟩
  | .hbm, ⟨97, _⟩ => ⟨S4x262144x256, .f32⟩
  | .hbm, ⟨98, _⟩ => ⟨S4x262144x256, .f32⟩
  | .hbm, ⟨99, _⟩ => ⟨S4x262144x256, .f32⟩
  | .hbm, ⟨100, _⟩ => ⟨S4x262144x256, .f32⟩
  | .hbm, ⟨101, _⟩ => ⟨S_, .f32⟩
  | .hbm, ⟨102, _⟩ => ⟨S4x262144x256, .f32⟩
  | .hbm, ⟨103, _⟩ => ⟨S4x262144x256, .f32⟩
  | .hbm, ⟨104, _⟩ => ⟨S4x262144x256, .f32⟩
  | .hbm, ⟨105, _⟩ => ⟨S_, .f32⟩
  | .hbm, ⟨106, _⟩ => ⟨S4x262144, .f32⟩
  | .hbm, ⟨107, _⟩ => ⟨S4x262144x1, .f32⟩
  | .hbm, ⟨108, _⟩ => ⟨S_, .f32⟩
  | .hbm, ⟨109, _⟩ => ⟨S4x262144x1, .f32⟩
  | .hbm, ⟨110, _⟩ => ⟨S4x262144x1, .f32⟩
  | .hbm, ⟨111, _⟩ => ⟨S4x262144x256, .f32⟩
  | .hbm, ⟨112, _⟩ => ⟨S4x262144x256, .f32⟩
  | .hbm, ⟨113, _⟩ => ⟨S4x1x256, .f32⟩
  | .hbm, ⟨114, _⟩ => ⟨S4x262144x256, .f32⟩
  | .hbm, ⟨115, _⟩ => ⟨S4x262144x256, .f32⟩
  | .hbm, ⟨116, _⟩ => ⟨S_, .f32⟩
  | .hbm, ⟨117, _⟩ => ⟨S4x262144, .f32⟩
  | .hbm, ⟨118, _⟩ => ⟨S_, .f32⟩
  | .hbm, ⟨119, _⟩ => ⟨S4x262144x1, .f32⟩
  | .hbm, ⟨120, _⟩ => ⟨S4x262144x1, .f32⟩
  | .hbm, ⟨121, _⟩ => ⟨S4x262144x1, .f32⟩
  | .hbm, ⟨122, _⟩ => ⟨S4x262144, .f32⟩
  | .hbm, ⟨123, _⟩ => ⟨S4x262144, .f32⟩
  | .hbm, ⟨124, _⟩ => ⟨S4x262144, .f32⟩
  | .hbm, ⟨125, _⟩ => ⟨S4x262144, .f32⟩
  | .hbm, ⟨126, _⟩ => ⟨S4x1x512x512, .f32⟩
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call1_call0_cst : Ref sig .tc := ⟨.hbm, 45, rfl⟩
abbrev main_call1_call0_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_10 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_12 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_15 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_v66 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_18 : Ref sig .tc := ⟨.hbm, 116, rfl⟩
abbrev main_v74 : Ref sig .tc := ⟨.hbm, 117, rfl⟩
abbrev main_cst_19 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩

abbrev nD : Nat := 1
abbrev τ : Topo := Topo.v7x

variable {F : FTy → Type} [FloatOps F]
-- ==== Proof.HistRegion.lean ====
/-
  The histogram call of v03, point by point.

  The call's grid is 4 images × 64 row blocks. A point whose row block is the first of its image starts the
  image's 256×128 accumulator from zero; every point adds its 32 rows' weights to it. This module runs the body in the two
  cases, names what it leaves in the accumulator (`histStep` over what was there), and states the pipeline's proof
  data and body obligation over any contents `V` the call finds.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionArrays
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The body's two cases -/

/-- The branch's condition: the row block is the first of its image. -/
abbrev firstBlock0 (i : grid0.Coords) : Prop := (Scalar.cmpi .ne (Scalar.extui (Scalar.cmpi .eq (BitVec.ofNat 32 (i 1).val) 0#32)) 0#32) = 1#1

theorem firstBlock0_iff : ∀ t : Fin cfg0.N, firstBlock0 (grid0.coords t) ↔ t.val % 64 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [firstBlock0, e0, e1]
    word_cmp
   : ∀ t : Fin grid0.N, firstBlock0 (grid0.coords t) ↔ t.val % 64 = 0)

/-- The block's 32 rows of pixels, times 255. -/
abbrev histRows (x0 : Vec F S1x32x128 .f32) : FVec F S32x128 .f32 := k0_pay3 x0

/-- What a point leaves in the accumulator over the contents `acc`: `acc` plus the weights of the block `x0`. -/
def histStep (x0 : Vec F S1x32x128 .f32) (acc : Vec F S1x256x128 .f32) : Vec F S1x256x128 .f32 :=
  k0_pay1 (histRows x0) k0_pay4
    (k0_pay13 (histRows x0) k0_pay4
      (k0_pay11 (histRows x0) k0_pay4
        (k0_pay9 (histRows x0) k0_pay4
          (k0_pay7 (histRows x0) k0_pay4 (k0_pay5 x0 acc) (k0_pay6 x0))
          (k0_pay8 (histRows x0) k0_pay4))
        (k0_pay10 (histRows x0) k0_pay4))
      (k0_pay12 (histRows x0)))
    (k0_pay14 (histRows x0) k0_pay4)

theorem zeros3 : (![0, 0, 0] : Fin 3 → Nat) = fun _ => 0 := by
  funext a; match a with | 0 => rfl | 1 => rfl | 2 => rfl

set_option maxHeartbeats 2000000 in
/-- A later block: the accumulator holds `acc` before and `histStep x0 acc` after. -/
theorem hist_later (c : Dev nD) (i : grid0.Coords) (arg2 : Memref sig .tc .vmem S1x32x128 .f32) (harg2 : arg2.IsWhole)
    (arg3 : Memref sig .tc .vmem S1x256x128 .f32) (harg3 : arg3.IsWhole) (hc : ¬firstBlock0 i)
    (x0 : Vec F S1x32x128 .f32) (acc : Vec F S1x256x128 .f32) (E : Set ℕ) (K : PUnit → sProp 𝕄) :
    iprop(owns (c : Thread nD τ) arg2 fullShare x0 ∗ owns (c : Thread nD τ) arg3 fullShare acc
        ∗ (iprop(owns (c : Thread nD τ) arg2 fullShare x0 ∗ owns (c : Thread nD τ) arg3 fullShare (histStep x0 acc)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  iexists _; isplitr; swap; · iexact H1
  ipureintro
  rw [View.read_writes_eq_canon _ _ _ (fun y => View.cover_of_tiledL _ S1x256x128.size (by sl_kernel_rfl) y)]
  try sl_unfold_words
  rw [View.canon_unit_zero zeros3]
  simp only [View.readAt_eq_ld, harg2.read_unread, harg3.read_unread, View.ld_unit_zero (S := S1x256x128) zeros3, View.ld_unit_zero (S := S1x32x128) zeros3, shapeCast_self]
  rfl

set_option maxHeartbeats 2000000 in
/-- The first block of an image: whatever the accumulator held, `histStep x0` over zeros is in it after. -/
theorem hist_first (c : Dev nD) (i : grid0.Coords) (arg2 : Memref sig .tc .vmem S1x32x128 .f32) (harg2 : arg2.IsWhole)
    (arg3 : Memref sig .tc .vmem S1x256x128 .f32) (harg3 : arg3.IsWhole) (hc : firstBlock0 i)
    (x0 : Vec F S1x32x128 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (histStep x0 k0_pay2)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  simp only [k0_part1_eq_skeleton, k0_part2_eq_skeleton, k0_part3_eq_skeleton, k0_part4_eq_skeleton, k0_part5_eq_skeleton]
  unfold owns
  iintro ⟨⟨%f0, %hf0, H0⟩, ⟨%d1, %f1, -, H1⟩, Hk⟩
  obtain rfl := harg2.eq_unread hf0
  sl_exec (disch := first | sl_exact hc)
  sl_step
  iapply Hk
  isplitl [H0]
  · iexists _; isplitr; · ipureintro; exact harg2.read_unread _
    iexact H0
  iexists _; isplitr; swap; · iexact H1
  ipureintro
  rw [View.read_writes_eq_canon _ _ _ (fun y => View.cover_of_tiledL _ S1x256x128.size (by sl_kernel_rfl) y)]
  try sl_unfold_words
  rw [View.canon_cons_unit_zero (S := S1x256x128) zeros3, View.readCov_unit_zero (S := S1x256x128) _ zeros3]
  simp only [View.readAt_eq_ld, harg2.read_unread, View.ld_unit_zero (S := S1x256x128) zeros3, View.ld_unit_zero (S := S1x32x128) zeros3, shapeCast_self]
  rfl

/-! ## The accumulator after each point -/

variable (V : Dev nD → Valuation τ sig (Elt F))

/-- Window `w`'s block at point `t`, of the array the call finds. -/
def block0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The accumulator after point `n`: restarted where a new image begins, carried on elsewhere. -/
def histAt (c : Dev nD) : (n : ℕ) → n < cfg0.N → Vec F S1x256x128 .f32
  | 0, hn => histStep (block0 V c 0 ⟨0, hn⟩) k0_pay2
  | n + 1, hn =>
    if (n + 1) % 64 = 0 then histStep (block0 V c 0 ⟨n + 1, hn⟩) k0_pay2
    else histStep (block0 V c 0 ⟨n + 1, hn⟩) (histAt c n (Nat.lt_of_succ_lt hn))

theorem histAt_first (c : Dev nD) (t : Fin cfg0.N) (h : t.val % 64 = 0) :
    histAt V c t.val t.isLt = histStep (block0 V c 0 t) k0_pay2 := by
  obtain ⟨n, hn⟩ := t
  cases n with
  | zero => rfl
  | succ n => exact if_pos h

theorem histAt_later (c : Dev nD) (t : Fin cfg0.N) (h : ¬t.val % 64 = 0) :
    histAt V c t.val t.isLt = histStep (block0 V c 0 t) (histAt V c (t.val - 1) (Nat.lt_of_le_of_lt (Nat.sub_le _ _) t.isLt)) := by
  obtain ⟨n, hn⟩ := t
  cases n with
  | zero => exact absurd (Nat.zero_mod _) h
  | succ n => exact if_neg h

/-! ## The pipeline's proof data and its body obligation -/

/-- The proof data: the arrays as found, the input's block left in place, the accumulator at `histAt`; the scoped rest
    and the generator register pass through; nothing owed. -/
def histDat (c : Dev nD) : Dat τ (Elt F) Unit ℕ (UR sig nD τ) ℕ cfg0 c where
  A w := V c (Proc.devRef .tc (Pipeline.arrRef spec0 w))
  after w t := match w with
    | ⟨0, _⟩ => block0 V c 0 t
    | ⟨1, _⟩ => histAt V c t.val t.isLt
  Φ _ := Pipeline.ΦA spec0 c
  q _ := fullShare
  owed _ := 0

theorem histDat_A (c : Dev nD) (w : Fin cfg0.W) : (histDat V c).A w = V c (Proc.devRef .tc (Pipeline.arrRef spec0 w)) := by
  dsimp only [histDat]

theorem histDat_after0 (c : Dev nD) (t : Fin cfg0.N) : (histDat V c).after 0 t = block0 V c 0 t := by dsimp only [histDat]
theorem histDat_after1 (c : Dev nD) (t : Fin cfg0.N) : (histDat V c).after 1 t = histAt V c t.val t.isLt := by dsimp only [histDat]

/-- The input's staging buffer holds its block whenever the body runs. -/
theorem histDat_before0 (c : Dev nD) (t : Fin cfg0.N) (d) : (histDat V c).before 0 t d = block0 V c 0 t :=
  ((histDat V c).before_in_eq_fetched 0 rfl (fun _ => rfl) (fun _ _ _ => rfl)
    (fun t => by rw [histDat_after0]; unfold Dat.blockOf block0; rw [histDat_A]; try rfl) t d).trans
    (by unfold Dat.fetched Dat.blockOf block0; rw [histDat_A]; try rfl)

/-- Inside an image the accumulator's buffer holds what the point before left. -/
theorem histDat_before1 (c : Dev nD) (t : Fin cfg0.N) (h : ¬t.val % 64 = 0) (d) :
    (histDat V c).before 1 t d = histAt V c (t.val - 1) (Nat.lt_of_le_of_lt (Nat.sub_le _ _) t.isLt) := by
  have hN : t.val < 256 := lt_of_lt_of_eq t.isLt (show cfg0.N = 256 from N_0)
  rw [Dat.before_out_kept _ 1 rfl t (by omega) (Bool.eq_false_iff.mpr fun h' => by have := (flush0_1 _).mp h'; dsimp only at this; omega)
    (fun _ => rfl) (fun _ _ => rfl)]
  dsimp only [histDat]

/-- The staging memref of each window at point `t`. -/
abbrev histIn (t : Fin cfg0.N) : Memref sig .tc .vmem S1x32x128 .f32 := win0_0.stage (cfg0.slots t 0)
abbrev histOut (t : Fin cfg0.N) : Memref sig .tc .vmem S1x256x128 .f32 := win0_1.stage (cfg0.slots t 1)

/-- What the body is called with at point `t`, -/
def histPre (c : Dev nD) (t : Fin cfg0.N) : sProp 𝕄 :=
  iprop((histDat V c).Φ t.castSucc ∗ (histDat V c).owesAt () t.castSucc
    ∗ (∃ d, owns (c : Thread nD τ) (histIn t) fullShare ((histDat V c).before 0 t d))
    ∗ (∃ d, owns (c : Thread nD τ) (histOut t) fullShare ((histDat V c).before 1 t d)))

/-- and what it returns. -/
def histPost (c : Dev nD) (t : Fin cfg0.N) : sProp 𝕄 :=
  iprop((histDat V c).Φ t.succ ∗ (histDat V c).owesAt () t.succ
    ∗ owns (c : Thread nD τ) (histIn t) fullShare ((histDat V c).after 0 t)
    ∗ owns (c : Thread nD τ) (histOut t) fullShare ((histDat V c).after 1 t))

set_option maxHeartbeats 800000 in
theorem hist_point (c : Dev nD) (t : Fin cfg0.N) :
    histPre V c t ⊢ wp frame (wpE (defs₀ (F := F)) Variants.none c none) Set.univ (bodyAt0 t) (fun _ => histPost V c t) := by
  unfold histPre histPost bodyAt0
  simp only [histDat_before0]
  rw [show (histDat V c).Φ t.succ = (histDat V c).Φ t.castSucc from rfl,
    show (histDat V c).owesAt () t.succ = (histDat V c).owesAt () t.castSucc from rfl,
    histDat_after0, histDat_after1]
  by_cases h : t.val % 64 = 0
  · rw [histAt_first V c t h]
    iintro ⟨HΦ, Ho, ⟨%d0, H0⟩, ⟨%d1, H1⟩⟩
    iapply (hist_first c (grid0.coords t) _ _ _ _ ((firstBlock0_iff t).mpr h) (block0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [histAt_later V c t h]
    simp only [histDat_before1 V c t h]
    iintro ⟨HΦ, Ho, ⟨%d0, H0⟩, ⟨%d1, H1⟩⟩
    iapply (hist_later c (grid0.coords t) _ _ _ _ (fun h' => h ((firstBlock0_iff t).mp h')) (block0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

theorem hist_row (t : Fin cfg0.N) : defs₀ (F := F) .tc cfg0.body (cfg0.bodyArgs t (cfg0.slots t)) = bodyAt0 t := by
  unfold defs₀; rw [Defs.onTc_tc]

/-- The body obligation at every point of the grid. -/
theorem hist_obligation (c : Dev nD) : BodyObligation (histDat V c) (defs₀ (F := F)) Variants.none () Set.univ := fun t => by
  rw [bigSep_W0, bigSep_W0, hist_row]
  exact triple_restated (hist_point V c t) rfl .rfl fun _ => .rfl

end Cert.Proof.Ideal

end
-- ==== Proof.EqRegion.lean ====
/-
  The equalising call of v03, point by point.

  The call's grid is 4 images × 64 row blocks. The point at an image's first row block turns the image's histogram into
  two 17×128 tables (the look-up's values at the multiples of 1/2048, and their forward differences) and leaves them in
  scratch memory; every point looks its 32×128 pixels up in the tables. This module runs the body in the two cases,
  names the tables (`tableF`, `tableD`) and the block written (`eqBlock`), and states the pipeline's proof data and body
  obligation over any contents `V` the call finds.
-/
module

public import proofs.«01_k».proof.Proof.HistRegion
public import Idealize.ShloMosaic.Lib.Pipeline.ReadBack
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionArrays
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## What the body computes -/

/-- The branch's condition: the row block is the first of its image. -/
abbrev firstBlock1 (i : grid1.Coords) : Prop := (Scalar.cmpi .ne (Scalar.extui (Scalar.cmpi .eq (BitVec.ofNat 32 (i 1).val) 0#32)) 0#32) = 1#1

theorem firstBlock1_iff : ∀ t : Fin cfg1.N, firstBlock1 (grid1.coords t) ↔ t.val % 64 = 0 :=
  (fun t => by
    have ht : t.val < 256 := Nat.lt_of_lt_of_eq t.isLt N_1
    have e0 : (grid1.coords t 0).val = t.val / 64 % 4 := Pipeline.Grid.coords_val t 0 (by decide) rfl
    have e1 : (grid1.coords t 1).val = t.val / 1 % 64 := Pipeline.Grid.coords_val t 1 (by decide) rfl
    simp only [firstBlock1, e0, e1]
    word_cmp
   : ∀ t : Fin grid1.N, firstBlock1 (grid1.coords t) ↔ t.val % 64 = 0)

/-- Row 0 of the table. -/
def tableRow0 (h : Vec F S1x256x128 .f32) : FVec F S1x128 .f32 :=
  k1_pay7 k1_pay5 (k1_pay6 h)

/-- Row 1 of the table. -/
def tableRow1 (h : Vec F S1x256x128 .f32) : FVec F S1x128 .f32 :=
  k1_pay8 (k1_pay1 h) k1_pay2 k1_pay3

/-- Row 2 of the table. -/
def tableRow2 (h : Vec F S1x256x128 .f32) : FVec F S1x128 .f32 :=
  k1_pay9 (k1_pay1 h) k1_pay2 k1_pay3

/-- Row 3 of the table. -/
def tableRow3 (h : Vec F S1x256x128 .f32) : FVec F S1x128 .f32 :=
  k1_pay12 (k1_pay1 h) k1_pay2 (k1_pay10 k1_pay3) k1_pay11

/-- Row 4 of the table. -/
def tableRow4 (h : Vec F S1x256x128 .f32) : FVec F S1x128 .f32 :=
  k1_pay13 (k1_pay1 h) k1_pay2 k1_pay3

/-- Row 5 of the table. -/
def tableRow5 (h : Vec F S1x256x128 .f32) : FVec F S1x128 .f32 :=
  k1_pay17 (k1_pay15 k1_pay2 k1_pay3) (k1_pay16 (k1_pay1 h) k1_pay2 k1_pay3)

/-- Row 6 of the table. -/
def tableRow6 (h : Vec F S1x256x128 .f32) : FVec F S1x128 .f32 :=
  k1_pay18 (k1_pay1 h) k1_pay2 k1_pay3

/-- Row 7 of the table. -/
def tableRow7 (h : Vec F S1x256x128 .f32) : FVec F S1x128 .f32 :=
  k1_pay19 (k1_pay1 h) k1_pay2 k1_pay3

/-- Row 8 of the table. -/
def tableRow8 (h : Vec F S1x256x128 .f32) : FVec F S1x128 .f32 :=
  k1_pay22 (k1_pay1 h) k1_pay2 (k1_pay20 k1_pay3) k1_pay21

/-- Row 9 of the table. -/
def tableRow9 (h : Vec F S1x256x128 .f32) : FVec F S1x128 .f32 :=
  k1_pay23 (k1_pay1 h) k1_pay2 k1_pay3

/-- Row 10 of the table. -/
def tableRow10 (h : Vec F S1x256x128 .f32) : FVec F S1x128 .f32 :=
  k1_pay27 (k1_pay25 k1_pay2 k1_pay3) (k1_pay26 (k1_pay1 h) k1_pay2 k1_pay3)

/-- Row 11 of the table. -/
def tableRow11 (h : Vec F S1x256x128 .f32) : FVec F S1x128 .f32 :=
  k1_pay28 (k1_pay1 h) k1_pay2 k1_pay3

/-- Row 12 of the table. -/
def tableRow12 (h : Vec F S1x256x128 .f32) : FVec F S1x128 .f32 :=
  k1_pay29 (k1_pay1 h) k1_pay2 k1_pay3

/-- Row 13 of the table. -/
def tableRow13 (h : Vec F S1x256x128 .f32) : FVec F S1x128 .f32 :=
  k1_pay32 (k1_pay1 h) k1_pay2 (k1_pay30 k1_pay3) k1_pay31

/-- Row 14 of the table. -/
def tableRow14 (h : Vec F S1x256x128 .f32) : FVec F S1x128 .f32 :=
  k1_pay33 (k1_pay1 h) k1_pay2 k1_pay3

/-- Row 15 of the table. -/
def tableRow15 (h : Vec F S1x256x128 .f32) : FVec F S1x128 .f32 :=
  k1_pay37 (k1_pay35 k1_pay2 k1_pay3) (k1_pay36 (k1_pay1 h) k1_pay2 k1_pay3)

/-- Row 16 of the table. -/
def tableRow16 (h : Vec F S1x256x128 .f32) : FVec F S1x128 .f32 :=
  k1_pay39 (k1_pay38 k1_pay2 k1_pay3) (mulf (k1_pay38 k1_pay2 k1_pay3) (k1_pay1 h))

/-- The seventeen rows of the look-up's values, as the body stacks them. -/
def tableRows (h : Vec F S1x256x128 .f32) : FVec F S17x128 .f32 :=
  concatenate S17x128 0 [⟨S1x128, tableRow0 h⟩, ⟨S1x128, tableRow1 h⟩, ⟨S1x128, tableRow2 h⟩, ⟨S1x128, tableRow3 h⟩, ⟨S1x128, tableRow4 h⟩, ⟨S1x128, tableRow5 h⟩, ⟨S1x128, tableRow6 h⟩, ⟨S1x128, tableRow7 h⟩, ⟨S1x128, tableRow8 h⟩, ⟨S1x128, tableRow9 h⟩, ⟨S1x128, tableRow10 h⟩, ⟨S1x128, tableRow11 h⟩, ⟨S1x128, tableRow12 h⟩, ⟨S1x128, tableRow13 h⟩, ⟨S1x128, tableRow14 h⟩, ⟨S1x128, tableRow15 h⟩, ⟨S1x128, tableRow16 h⟩] concatenates_S1x128_S1x128_S1x128_S1x128_S1x128_S1x128_S1x128_S1x128_S1x128_S1x128_S1x128_S1x128_S1x128_S1x128_S1x128_S1x128_S1x128_S17x128_d0

/-- The table of values the body stores for the histogram block `h`, -/
def tableF (h : Vec F S1x256x128 .f32) : Vec F S17x128 .f32 := k1_pay40 (tableRows h)

/-- and the table of forward differences. -/
def tableD (h : Vec F S1x256x128 .f32) : Vec F S17x128 .f32 := k1_pay41 (tableRows h)

/-- The pixels of a block looked up in the tables `f` (values) and `d` (differences), as the body computes it. -/
def eqBlock (x : Vec F S1x32x128 .f32) (f d : Vec F S17x128 .f32) : Vec F S1x32x128 .f32 :=
  let v11 : FVec F S32x128 .f32 := k1_pay45 x
  let v13 : IVec S32x128 32 := k1_pay46 x
  let v15 : IVec S32x128 32 := k1_pay47 x
  let v68 : FVec F S32x128 .f32 := k1_pay55 v13 v15 k1_pay48 (k1_pay51 x (View.ld f (Rect.unit (s := S17x128) ![0, 0] S1x128.size inb_S17x128_S1x128_0_0))) (View.ld f (Rect.unit (s := S17x128) ![1, 0] S1x128.size inb_S17x128_S1x128_1_0))
  let v69 : FVec F S32x128 .f32 := k1_pay56 v13 v15 k1_pay49 (k1_pay50 (View.ld d (Rect.unit (s := S17x128) ![0, 0] S1x128.size inb_S17x128_S1x128_0_0))) (k1_pay52 x) (View.ld d (Rect.unit (s := S17x128) ![1, 0] S1x128.size inb_S17x128_S1x128_1_0))
  let v120 : FVec F S32x128 .f32 := k1_pay62 v13 v15 v68 (k1_pay57 (View.ld f (Rect.unit (s := S17x128) ![2, 0] S1x128.size inb_S17x128_S1x128_2_0))) (k1_pay59 v15) (View.ld f (Rect.unit (s := S17x128) ![3, 0] S1x128.size inb_S17x128_S1x128_3_0))
  let v121 : FVec F S32x128 .f32 := k1_pay63 v13 v15 v69 (k1_pay58 (View.ld d (Rect.unit (s := S17x128) ![2, 0] S1x128.size inb_S17x128_S1x128_2_0))) (View.ld d (Rect.unit (s := S17x128) ![3, 0] S1x128.size inb_S17x128_S1x128_3_0))
  let v146 : FVec F S32x128 .f32 := k1_pay66 v13 v15 v120 (k1_pay64 (View.ld f (Rect.unit (s := S17x128) ![4, 0] S1x128.size inb_S17x128_S1x128_4_0)))
  let v147 : FVec F S32x128 .f32 := k1_pay67 v13 v15 v121 (View.ld d (Rect.unit (s := S17x128) ![4, 0] S1x128.size inb_S17x128_S1x128_4_0))
  let v198 : FVec F S32x128 .f32 := k1_pay72 v13 v15 v146 (k1_pay68 v15 (View.ld f (Rect.unit (s := S17x128) ![5, 0] S1x128.size inb_S17x128_S1x128_5_0))) (k1_pay70 v13) (View.ld f (Rect.unit (s := S17x128) ![6, 0] S1x128.size inb_S17x128_S1x128_6_0))
  let v199 : FVec F S32x128 .f32 := k1_pay73 v13 v15 v147 (k1_pay69 v15 (View.ld d (Rect.unit (s := S17x128) ![5, 0] S1x128.size inb_S17x128_S1x128_5_0))) (k1_pay70 v13) (View.ld d (Rect.unit (s := S17x128) ![6, 0] S1x128.size inb_S17x128_S1x128_6_0))
  let v250 : FVec F S32x128 .f32 := k1_pay79 v13 v15 v198 (k1_pay75 v15 (View.ld f (Rect.unit (s := S17x128) ![7, 0] S1x128.size inb_S17x128_S1x128_7_0))) (View.ld f (Rect.unit (s := S17x128) ![8, 0] S1x128.size inb_S17x128_S1x128_8_0))
  let v251 : FVec F S32x128 .f32 := k1_pay80 v13 v15 v199 (k1_pay74 (View.ld d (Rect.unit (s := S17x128) ![7, 0] S1x128.size inb_S17x128_S1x128_7_0))) (k1_pay76 v15) (View.ld d (Rect.unit (s := S17x128) ![8, 0] S1x128.size inb_S17x128_S1x128_8_0))
  let v302 : FVec F S32x128 .f32 := k1_pay86 v13 v15 v250 (k1_pay81 (View.ld f (Rect.unit (s := S17x128) ![9, 0] S1x128.size inb_S17x128_S1x128_9_0))) (k1_pay83 v15) (View.ld f (Rect.unit (s := S17x128) ![10, 0] S1x128.size inb_S17x128_S1x128_10_0))
  let v303 : FVec F S32x128 .f32 := k1_pay87 v13 v15 v251 (k1_pay82 (View.ld d (Rect.unit (s := S17x128) ![9, 0] S1x128.size inb_S17x128_S1x128_9_0))) (View.ld d (Rect.unit (s := S17x128) ![10, 0] S1x128.size inb_S17x128_S1x128_10_0))
  let v328 : FVec F S32x128 .f32 := k1_pay89 v13 v15 v302 (View.ld f (Rect.unit (s := S17x128) ![11, 0] S1x128.size inb_S17x128_S1x128_11_0))
  let v329 : FVec F S32x128 .f32 := k1_pay90 v13 v15 v303 (View.ld d (Rect.unit (s := S17x128) ![11, 0] S1x128.size inb_S17x128_S1x128_11_0))
  let v380 : FVec F S32x128 .f32 := k1_pay96 v13 v15 v328 (k1_pay92 v15 (View.ld f (Rect.unit (s := S17x128) ![12, 0] S1x128.size inb_S17x128_S1x128_12_0))) (View.ld f (Rect.unit (s := S17x128) ![13, 0] S1x128.size inb_S17x128_S1x128_13_0))
  let v381 : FVec F S32x128 .f32 := k1_pay97 v13 v15 v329 (k1_pay91 (View.ld d (Rect.unit (s := S17x128) ![12, 0] S1x128.size inb_S17x128_S1x128_12_0))) (k1_pay93 v15) (View.ld d (Rect.unit (s := S17x128) ![13, 0] S1x128.size inb_S17x128_S1x128_13_0))
  k1_pay101 v11 v13 v15 v380 v381 (k1_pay98 (View.ld f (Rect.unit (s := S17x128) ![14, 0] S1x128.size inb_S17x128_S1x128_14_0))) (k1_pay99 (View.ld d (Rect.unit (s := S17x128) ![14, 0] S1x128.size inb_S17x128_S1x128_14_0))) (k1_pay100 v15) (View.ld f (Rect.unit (s := S17x128) ![15, 0] S1x128.size inb_S17x128_S1x128_15_0)) (View.ld d (Rect.unit (s := S17x128) ![15, 0] S1x128.size inb_S17x128_S1x128_15_0))

theorem zeros2 : (![0, 0] : Fin 2 → Nat) = fun _ => 0 := by
  funext a; match a with | 0 => rfl | 1 => rfl

/-! ## The body's two cases -/

set_option maxHeartbeats 4000000 in
/-- A later block: the tables `f` and `d` are read and left in place. -/
theorem eq_later (c : Dev nD) (i : grid1.Coords) (arg2 : Memref sig .tc .vmem S1x32x128 .f32) (harg2 : arg2.IsWhole)
    (arg3 : Memref sig .tc .vmem S1x256x128 .f32) (harg3 : arg3.IsWhole) (arg4 : Memref sig .tc .vmem S1x32x128 .f32) (harg4 : arg4.IsWhole)
    (arg5 : Memref sig .tc .vmem S17x128 .f32) (harg5 : arg5.IsWhole) (arg6 : Memref sig .tc .vmem S17x128 .f32) (harg6 : arg6.IsWhole)
    (hc : ¬firstBlock1 i) (x0 : Vec F S1x32x128 .f32) (x1 : Vec F S1x256x128 .f32) (f d : Vec F S17x128 .f32) (E : Set ℕ) (K : PUnit → sProp 𝕄) :
    iprop(owns (c : Thread nD τ) arg2 fullShare x0 ∗ owns (c : Thread nD τ) arg3 fullShare x1 ∗ (∃ z, owns (c : Thread nD τ) arg4 fullShare z)
        ∗ owns (c : Thread nD τ) arg5 fullShare f ∗ owns (c : Thread nD τ) arg6 fullShare d
        ∗ (iprop(owns (c : Thread nD τ) arg2 fullShare x0 ∗ owns (c : Thread nD τ) arg3 fullShare x1 ∗ owns (c : Thread nD τ) arg4 fullShare (eqBlock x0 f d)
            ∗ owns (c : Thread nD τ) arg5 fullShare f ∗ owns (c : Thread nD τ) arg6 fullShare d) -∗ K ⟨⟩))
      ⊢ wp frame (wpE (defs₀ (F := F)) Variants.none c none) E (cc1__eq_kernel i arg2 harg2 arg3 harg3 arg4 harg4 arg5 harg5 arg6 harg6) K := by
  simp only [cc1__eq_kernel_eq_skeleton]; unfold cc1__eq_kernel_skel
  simp only [k1_part8_eq_skeleton, k1_part1_eq_skeleton, k1_part2_eq_skeleton, k1_part3_eq_skeleton, k1_part4_eq_skeleton, k1_part5_eq_skeleton, k1_part6_eq_skeleton, k1_part7_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg2.eq_unread hf0; obtain rfl := harg3.eq_unread hf1; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (fun y => View.cover_of_tiledL _ S1x32x128.size (by sl_kernel_rfl) y)]
    try sl_unfold_words
    rw [View.canon_unit_zero zeros3]
    simp only [View.readAt_eq_ld, harg2.read_unread, harg5.read_unread, harg6.read_unread, View.ld_unit_zero (S := S1x32x128) zeros3]
    rfl
  isplitl [H3]
  · iexists _; isplitr; · ipureintro; exact harg5.read_unread _
    iexact H3
  iexists _; isplitr; · ipureintro; exact harg6.read_unread _
  iexact H4

set_option maxHeartbeats 4000000 in
/-- The first part of the body at an image's first block: the tables are made from the histogram block and stored, then the
    first rows are read. -/
theorem eq_tables (c : Dev nD) (i : grid1.Coords) (arg2 : Memref sig .tc .vmem S1x32x128 .f32) (harg2 : arg2.IsWhole)
    (arg3 : Memref sig .tc .vmem S1x256x128 .f32) (harg3 : arg3.IsWhole) (arg4 : Memref sig .tc .vmem S1x32x128 .f32) (harg4 : arg4.IsWhole)
    (arg5 : Memref sig .tc .vmem S17x128 .f32) (harg5 : arg5.IsWhole) (arg6 : Memref sig .tc .vmem S17x128 .f32) (harg6 : arg6.IsWhole)
    (hc : firstBlock1 i) (x0 : Vec F S1x32x128 .f32) (x1 : Vec F S1x256x128 .f32) (E : Set ℕ) (K : _ → sProp 𝕄) :
    iprop(owns (c : Thread nD τ) arg2 fullShare x0 ∗ owns (c : Thread nD τ) arg3 fullShare x1
        ∗ (∃ z, owns (c : Thread nD τ) arg5 fullShare z) ∗ (∃ z, owns (c : Thread nD τ) arg6 fullShare z)
        ∗ (iprop(owns (c : Thread nD τ) arg2 fullShare x0 ∗ owns (c : Thread nD τ) arg3 fullShare x1
            ∗ owns (c : Thread nD τ) arg5 fullShare (tableF x1) ∗ owns (c : Thread nD τ) arg6 fullShare (tableD x1))
          -∗ K ⟨k1_pay45 x0, k1_pay46 x0, k1_pay47 x0, k1_pay48, k1_pay49,
              k1_pay50 (View.ld (tableD x1) (Rect.unit (s := S17x128) ![0, 0] S1x128.size inb_S17x128_S1x128_0_0)),
              k1_pay51 x0 (View.ld (tableF x1) (Rect.unit (s := S17x128) ![0, 0] S1x128.size inb_S17x128_S1x128_0_0)), k1_pay52 x0⟩))
      ⊢ wp frame (wpE (defs₀ (F := F)) Variants.none c none) E (k1_part8 i arg2 harg2 arg3 harg3 arg4 harg4 arg5 harg5 arg6 harg6) K := by
  simp only [k1_part8_eq_skeleton, k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%d3, %f3, -, H3⟩, ⟨%d4, %f4, -, H4⟩, Hk⟩
  obtain rfl := harg2.eq_unread hf0; obtain rfl := harg3.eq_unread hf1
  sl_exec (disch := first | sl_exact hc)
  simp only [View.readAt_eq_ld, harg2.read_unread, harg3.read_unread, View.ld_unit_zero (S := S1x32x128) zeros3, View.ld_unit_zero (S := S1x256x128) zeros3]
  sl_step
  have e1 : View.ld (arg3.view.read (Elt F) (harg3.unread x1)) (Rect.unit (s := S1x256x128) ![0, 0, 0] S1x256x128.size inb_S1x256x128_S1x256x128_0_0_0) = x1 := by
    rw [harg3.read_unread]; exact View.ld_unit_zero (S := S1x256x128) zeros3 _ _
  have e18 : eq_tables.sl.v18 c arg3 harg3 arg5 x1 = View.ld (tableF x1) (Rect.unit (s := S17x128) ![0, 0] S1x128.size inb_S17x128_S1x128_0_0) := by
    refine Eq.trans ?_ (congrArg (fun h => View.ld (tableF h) (Rect.unit (s := S17x128) ![0, 0] S1x128.size inb_S17x128_S1x128_0_0)) e1)
    exact View.readCov_fill (s := S17x128) arg5.view inb_S17x128_S17x128_0_0 _ [] _ (fun a => congrFun zeros2 a)
  have e21 : eq_tables.sl.v21 c arg3 harg3 arg6 x1 = View.ld (tableD x1) (Rect.unit (s := S17x128) ![0, 0] S1x128.size inb_S17x128_S1x128_0_0) := by
    refine Eq.trans ?_ (congrArg (fun h => View.ld (tableD h) (Rect.unit (s := S17x128) ![0, 0] S1x128.size inb_S17x128_S1x128_0_0)) e1)
    exact View.readCov_fill (s := S17x128) arg6.view inb_S17x128_S17x128_0_0 _ [] _ (fun a => congrFun zeros2 a)
  rw [e18, e21]
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; swap; · iexact H3
    ipureintro
    rw [View.read_writes_eq_canon _ _ _ (fun y => View.cover_of_tiledL _ S17x128.size (by sl_kernel_rfl) y)]
    refine Eq.trans ?_ (congrArg tableF e1)
    exact View.canon_unit_zero (S := S17x128) zeros2 _ _
  iexists _; isplitr; swap; · iexact H4
  ipureintro
  rw [View.read_writes_eq_canon _ _ _ (fun y => View.cover_of_tiledL _ S17x128.size (by sl_kernel_rfl) y)]
  refine Eq.trans ?_ (congrArg tableD e1)
  exact View.canon_unit_zero (S := S17x128) zeros2 _ _

set_option maxHeartbeats 4000000 in
/-- The first block of an image: the tables are made from the histogram block, then read. -/
theorem eq_first (c : Dev nD) (i : grid1.Coords) (arg2 : Memref sig .tc .vmem S1x32x128 .f32) (harg2 : arg2.IsWhole)
    (arg3 : Memref sig .tc .vmem S1x256x128 .f32) (harg3 : arg3.IsWhole) (arg4 : Memref sig .tc .vmem S1x32x128 .f32) (harg4 : arg4.IsWhole)
    (arg5 : Memref sig .tc .vmem S17x128 .f32) (harg5 : arg5.IsWhole) (arg6 : Memref sig .tc .vmem S17x128 .f32) (harg6 : arg6.IsWhole)
    (hc : firstBlock1 i) (x0 : Vec F S1x32x128 .f32) (x1 : Vec F S1x256x128 .f32) (E : Set ℕ) (K : PUnit → sProp 𝕄) :
    iprop(owns (c : Thread nD τ) arg2 fullShare x0 ∗ owns (c : Thread nD τ) arg3 fullShare x1 ∗ (∃ z, owns (c : Thread nD τ) arg4 fullShare z)
        ∗ (∃ z, owns (c : Thread nD τ) arg5 fullShare z) ∗ (∃ z, owns (c : Thread nD τ) arg6 fullShare z)
        ∗ (iprop(owns (c : Thread nD τ) arg2 fullShare x0 ∗ owns (c : Thread nD τ) arg3 fullShare x1
            ∗ owns (c : Thread nD τ) arg4 fullShare (eqBlock x0 (tableF x1) (tableD x1))
            ∗ owns (c : Thread nD τ) arg5 fullShare (tableF x1) ∗ owns (c : Thread nD τ) arg6 fullShare (tableD x1)) -∗ K ⟨⟩))
      ⊢ wp frame (wpE (defs₀ (F := F)) Variants.none c none) E (cc1__eq_kernel i arg2 harg2 arg3 harg3 arg4 harg4 arg5 harg5 arg6 harg6) K := by
  simp only [cc1__eq_kernel_eq_skeleton]; unfold cc1__eq_kernel_skel
  rw [wp_bind]
  iintro ⟨H0, H1, H2, H5, H6, Hk⟩
  iapply (eq_tables c i arg2 harg2 arg3 harg3 arg4 harg4 arg5 harg5 arg6 harg6 hc x0 x1 E _)
  isplitl [H0]; · iexact H0
  isplitl [H1]; · iexact H1
  isplitl [H5]; · iexact H5
  isplitl [H6]; · iexact H6
  generalize tableF x1 = f
  generalize tableD x1 = d
  unfold owns
  simp only [k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
  iintro ⟨H0, H1, ⟨%f3, %hf3, H3⟩, ⟨%f4, %hf4, H4⟩⟩
  icases H2 with ⟨%d2, %f2, -, H2⟩
  obtain rfl := harg5.eq_unread hf3; obtain rfl := harg6.eq_unread hf4
  sl_exec
  sl_step
  iapply Hk
  isplitl [H0]; · iexact H0
  isplitl [H1]; · iexact H1
  isplitl [H2]
  · iexists _; isplitr; swap; · iexact H2
    ipureintro
    rw [View.read_writes_eq_canon _ _ _ (fun y => View.cover_of_tiledL _ S1x32x128.size (by sl_kernel_rfl) y)]
    try sl_unfold_words
    rw [View.canon_unit_zero zeros3]
    simp only [View.readAt_eq_ld, harg5.read_unread, harg6.read_unread]
    rfl
  isplitl [H3]
  · iexists _; isplitr; · ipureintro; exact harg5.read_unread _
    iexact H3
  iexists _; isplitr; · ipureintro; exact harg6.read_unread _
  iexact H4

/-! ## The tables' histogram at each point -/

variable (V : Dev nD → Valuation τ sig (Elt F))

/-- Window `w`'s block at point `t`, of the array the call finds. -/
def block1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The histogram block the tables in scratch were made from after point `n`: the one at the image's first point. -/
def usedHist (c : Dev nD) : (n : ℕ) → n < cfg1.N → Vec F S1x256x128 .f32
  | 0, hn => block1 V c 1 ⟨0, hn⟩
  | n + 1, hn => if (n + 1) % 64 = 0 then block1 V c 1 ⟨n + 1, hn⟩ else usedHist c n (Nat.lt_of_succ_lt hn)

theorem usedHist_first (c : Dev nD) (t : Fin cfg1.N) (h : t.val % 64 = 0) : usedHist V c t.val t.isLt = block1 V c 1 t := by
  obtain ⟨n, hn⟩ := t
  cases n with
  | zero => rfl
  | succ n => exact if_pos h

theorem usedHist_later (c : Dev nD) (t : Fin cfg1.N) (h : ¬t.val % 64 = 0) :
    usedHist V c t.val t.isLt = usedHist V c (t.val - 1) (Nat.lt_of_le_of_lt (Nat.sub_le _ _) t.isLt) := by
  obtain ⟨n, hn⟩ := t
  cases n with
  | zero => exact absurd (Nat.zero_mod _) h
  | succ n => exact if_neg h

/-! ## The invariant between points -/

/-- The two scratch tables as memrefs. -/
abbrev scratchF : Memref sig .tc .vmem S17x128 .f32 := Memref.whole cc1_scratch0
abbrev scratchD : Memref sig .tc .vmem S17x128 .f32 := Memref.whole cc1_scratch1

/-- The histogram call's four staging buffers, which this call does not touch, at any contents. -/
def idleStages (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Before the first point the tables are at anything; after a point they are those of `usedHist`. -/
def tablesInv (c : Dev nD) : (n : ℕ) → n ≤ cfg1.N → sProp 𝕄
  | 0, _ => iprop(idleStages c ∗ (∃ z, owns (c : Thread nD τ) scratchF fullShare z) ∗ (∃ z, owns (c : Thread nD τ) scratchD fullShare z) ∗ (∃ r, prngReg c r))
  | n + 1, hn => iprop(idleStages c ∗ owns (c : Thread nD τ) scratchF fullShare (tableF (usedHist V c n hn))
      ∗ owns (c : Thread nD τ) scratchD fullShare (tableD (usedHist V c n hn)) ∗ (∃ r, prngReg c r))

theorem tablesInv_succ (c : Dev nD) (n : ℕ) (hn : n < cfg1.N) :
    tablesInv V c (n + 1) hn = iprop(idleStages c ∗ owns (c : Thread nD τ) scratchF fullShare (tableF (usedHist V c n hn))
      ∗ owns (c : Thread nD τ) scratchD fullShare (tableD (usedHist V c n hn)) ∗ (∃ r, prngReg c r)) := rfl

theorem tablesInv_pos (c : Dev nD) (n : ℕ) (h : n ≤ cfg1.N) (hz : n ≠ 0) :
    tablesInv V c n h = iprop(idleStages c ∗ owns (c : Thread nD τ) scratchF fullShare (tableF (usedHist V c (n - 1) (by omega)))
      ∗ owns (c : Thread nD τ) scratchD fullShare (tableD (usedHist V c (n - 1) (by omega))) ∗ (∃ r, prngReg c r)) := by
  cases n with
  | zero => exact absurd rfl hz
  | succ n => rfl

/-- At any point the contents of the tables may be forgotten. -/
theorem tablesInv_forget (c : Dev nD) (n : ℕ) (h : n ≤ cfg1.N) :
    tablesInv V c n h ⊢ iprop(idleStages c ∗ (∃ z, owns (c : Thread nD τ) scratchF fullShare z) ∗ (∃ z, owns (c : Thread nD τ) scratchD fullShare z) ∗ (∃ r, prngReg c r)) := by
  cases n with
  | zero => exact .rfl
  | succ n =>
    rw [tablesInv_succ]
    iintro ⟨Hi, H0, H1, Hg⟩
    isplitl [Hi]; · iexact Hi
    isplitl [H0]; · iexists _; iexact H0
    isplitl [H1]; · iexists _; iexact H1
    iexact Hg

/-- What the launch hands over is the invariant before the first point, -/
theorem tablesInv_in (c : Dev nD) : (Pipeline.ΦA spec1 c : sProp 𝕄) ⊢ tablesInv V c 0 (Nat.zero_le _) := by
  unfold Pipeline.ΦA; rw [scopedRest1_eq]
  show _ ⊢ iprop(idleStages c ∗ (∃ z, owns (c : Thread nD τ) scratchF fullShare z) ∗ (∃ z, owns (c : Thread nD τ) scratchD fullShare z) ∗ (∃ r, prngReg c r))
  unfold idleStages; simp only [owns_whole]
  iintro ⟨⟨A0, A1, A2, A3, H0, H1⟩, Hg⟩
  isplitl [A0 A1 A2 A3]
  · isplitl [A0]; · iexact A0
    isplitl [A1]; · iexact A1
    isplitl [A2]; · iexact A2
    iexact A3
  isplitl [H0]; · iexact H0
  isplitl [H1]; · iexact H1
  iexact Hg

/-- and the invariant gives it back. -/
theorem tablesInv_out (c : Dev nD) (n : ℕ) (h : n ≤ cfg1.N) : tablesInv V c n h ⊢ (Pipeline.ΦA spec1 c : sProp 𝕄) := by
  refine (tablesInv_forget V c n h).trans ?_
  unfold Pipeline.ΦA; rw [scopedRest1_eq]
  show iprop(idleStages c ∗ (∃ z, owns (c : Thread nD τ) scratchF fullShare z) ∗ (∃ z, owns (c : Thread nD τ) scratchD fullShare z) ∗ (∃ r, prngReg c r)) ⊢ _
  unfold idleStages; simp only [owns_whole]
  iintro ⟨⟨A0, A1, A2, A3⟩, H0, H1, Hg⟩
  isplitl [A0 A1 A2 A3 H0 H1]
  · isplitl [A0]; · iexact A0
    isplitl [A1]; · iexact A1
    isplitl [A2]; · iexact A2
    isplitl [A3]; · iexact A3
    isplitl [H0]; · iexact H0
    iexact H1
  iexact Hg

/-! ## The pipeline's proof data and its body obligation -/

/-- The proof data: the arrays as found, the inputs' blocks left in place, the output block looked up in the tables of
    `usedHist`; the tables between points; nothing owed. -/
def eqDat (c : Dev nD) : Dat τ (Elt F) Unit ℕ (UR sig nD τ) ℕ cfg1 c where
  A w := V c (Proc.devRef .tc (Pipeline.arrRef spec1 w))
  after w t := match w with
    | ⟨0, _⟩ => block1 V c 0 t
    | ⟨1, _⟩ => block1 V c 1 t
    | ⟨2, _⟩ => eqBlock (block1 V c 0 t) (tableF (usedHist V c t.val t.isLt)) (tableD (usedHist V c t.val t.isLt))
  Φ t := tablesInv V c t.val (Nat.le_of_lt_succ t.isLt)
  q _ := fullShare
  owed _ := 0

theorem eqDat_A (c : Dev nD) (w : Fin cfg1.W) : (eqDat V c).A w = V c (Proc.devRef .tc (Pipeline.arrRef spec1 w)) := by
  dsimp only [eqDat]

theorem eqDat_after0 (c : Dev nD) (t : Fin cfg1.N) : (eqDat V c).after 0 t = block1 V c 0 t := by dsimp only [eqDat]
theorem eqDat_after1 (c : Dev nD) (t : Fin cfg1.N) : (eqDat V c).after 1 t = block1 V c 1 t := by dsimp only [eqDat]
theorem eqDat_after2 (c : Dev nD) (t : Fin cfg1.N) :
    (eqDat V c).after 2 t = eqBlock (block1 V c 0 t) (tableF (usedHist V c t.val t.isLt)) (tableD (usedHist V c t.val t.isLt)) := by
  dsimp only [eqDat]

theorem eqDat_castSucc (c : Dev nD) (t : Fin cfg1.N) :
    (eqDat V c).Φ t.castSucc = tablesInv V c t.val (Nat.le_of_lt t.isLt) := by
  dsimp only [eqDat]; exact Pipeline.Dat.Φ_castSucc (tablesInv V c) t

/-- Each input's staging buffer holds its block whenever the body runs. -/
theorem eqDat_before0 (c : Dev nD) (t : Fin cfg1.N) (d) : (eqDat V c).before 0 t d = block1 V c 0 t :=
  ((eqDat V c).before_in_eq_fetched 0 rfl (fun _ => rfl) (fun _ _ _ => rfl)
    (fun t => by rw [eqDat_after0]; unfold Dat.blockOf block1; rw [eqDat_A]; try rfl) t d).trans
    (by unfold Dat.fetched Dat.blockOf block1; rw [eqDat_A]; try rfl)

theorem eqDat_before1 (c : Dev nD) (t : Fin cfg1.N) (d) : (eqDat V c).before 1 t d = block1 V c 1 t :=
  ((eqDat V c).before_in_eq_fetched 1 rfl (fun _ => rfl) (fun _ _ _ => rfl)
    (fun t => by rw [eqDat_after1]; unfold Dat.blockOf block1; rw [eqDat_A]; try rfl) t d).trans
    (by unfold Dat.fetched Dat.blockOf block1; rw [eqDat_A]; try rfl)

/-- The staging memref of each window at point `t`. -/
abbrev eqIn (t : Fin cfg1.N) : Memref sig .tc .vmem S1x32x128 .f32 := win1_0.stage (cfg1.slots t 0)
abbrev eqHist (t : Fin cfg1.N) : Memref sig .tc .vmem S1x256x128 .f32 := win1_1.stage (cfg1.slots t 1)
abbrev eqOut (t : Fin cfg1.N) : Memref sig .tc .vmem S1x32x128 .f32 := win1_2.stage (cfg1.slots t 2)

/-- What the body is called with at point `t`, -/
def eqPre (c : Dev nD) (t : Fin cfg1.N) : sProp 𝕄 :=
  iprop((eqDat V c).Φ t.castSucc ∗ (eqDat V c).owesAt () t.castSucc
    ∗ (∃ d, owns (c : Thread nD τ) (eqIn t) fullShare ((eqDat V c).before 0 t d))
    ∗ (∃ d, owns (c : Thread nD τ) (eqHist t) fullShare ((eqDat V c).before 1 t d))
    ∗ (∃ d, owns (c : Thread nD τ) (eqOut t) fullShare ((eqDat V c).before 2 t d)))

/-- and what it returns. -/
def eqPost (c : Dev nD) (t : Fin cfg1.N) : sProp 𝕄 :=
  iprop((eqDat V c).Φ t.succ ∗ (eqDat V c).owesAt () t.succ
    ∗ owns (c : Thread nD τ) (eqIn t) fullShare ((eqDat V c).after 0 t)
    ∗ owns (c : Thread nD τ) (eqHist t) fullShare ((eqDat V c).after 1 t)
    ∗ owns (c : Thread nD τ) (eqOut t) fullShare ((eqDat V c).after 2 t))

set_option maxHeartbeats 1600000 in
theorem eq_point (c : Dev nD) (t : Fin cfg1.N) :
    eqPre V c t ⊢ wp frame (wpE (defs₀ (F := F)) Variants.none c none) Set.univ (bodyAt1 t) (fun _ => eqPost V c t) := by
  unfold eqPre eqPost bodyAt1
  simp only [eqDat_before0, eqDat_before1]
  rw [show (eqDat V c).owesAt () t.succ = (eqDat V c).owesAt () t.castSucc from rfl, eqDat_after0, eqDat_after1, eqDat_after2,
    eqDat_castSucc, show (eqDat V c).Φ t.succ = tablesInv V c (t.val + 1) t.isLt from rfl, tablesInv_succ]
  by_cases h : t.val % 64 = 0
  · rw [usedHist_first V c t h]
    iintro ⟨HI, Ho, ⟨%d0, H0⟩, ⟨%d1, H1⟩, ⟨%d2, H2⟩⟩
    ihave HI' := (tablesInv_forget V c _ _) $$ HI
    icases HI' with ⟨Hi, HS0, HS1, Hg⟩
    iapply (eq_first c (grid1.coords t) _ _ _ _ _ _ _ _ _ _ ((firstBlock1_iff t).mpr h) (block1 V c 0 t) (block1 V c 1 t) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hi HS0 HS1 Hg]
    · isplitl [Hi]; · iexact Hi
      isplitl [HS0]; · iexact HS0
      isplitl [HS1]; · iexact HS1
      iexact Hg
    isplitl [Ho]; · iexact Ho
    isplitl [H0]; · iexact H0
    isplitl [H1]; · iexact H1
    iexact H2
  · rw [tablesInv_pos V c _ _ (fun hz => h (by rw [hz]))]
    rw [usedHist_later V c t h]
    iintro ⟨⟨Hi, HS0, HS1, Hg⟩, Ho, ⟨%d0, H0⟩, ⟨%d1, H1⟩, ⟨%d2, H2⟩⟩
    iapply (eq_later c (grid1.coords t) _ _ _ _ _ _ _ _ _ _ (fun h' => h ((firstBlock1_iff t).mp h')) (block1 V c 0 t) (block1 V c 1 t) _ _ Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hi HS0 HS1 Hg]
    · isplitl [Hi]; · iexact Hi
      isplitl [HS0]; · iexact HS0
      isplitl [HS1]; · iexact HS1
      iexact Hg
    isplitl [Ho]; · iexact Ho
    isplitl [H0]; · iexact H0
    isplitl [H1]; · iexact H1
    iexact H2

theorem eq_row (t : Fin cfg1.N) : defs₀ (F := F) .tc cfg1.body (cfg1.bodyArgs t (cfg1.slots t)) = bodyAt1 t := by
  unfold defs₀; rw [Defs.onTc_tc]

/-- The body obligation at every point of the grid. -/
theorem eq_obligation (c : Dev nD) : BodyObligation (eqDat V c) (defs₀ (F := F)) Variants.none () Set.univ := fun t => by
  rw [bigSep_W1, bigSep_W1, eq_row]
  exact triple_restated (eq_point V c t) rfl .rfl fun _ => .rfl

end Cert.Proof.Ideal

end
-- ==== Proof.Launch.lean ====
/-
  @main of v03 as a run: a reshape, the histogram call, the equalising call, a reshape.

  The two calls are entered from every buffer of the core held at a known valuation and left at the valuation the pipeline
  leaves (`afterRegion`); the two reshapes are host operations. From any memory with every semaphore counter at zero,
  every weakly fair execution terminates, with the argument as launched, the result at the last valuation and every
  counter at zero (`run`).
-/
module

public import proofs.«01_k».proof.Proof.EqRegion
public import Idealize.ShloMosaic.Lib.Pipeline.RegionArraysS
public import Idealize.ShloMosaic.Lib.Pipeline.Regions

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the buffers hold between the four items -/

/-- When the histogram call is entered: the image reshaped. -/
def atHist (c : Dev nD) : Valuation τ sig (Elt F) := StableHlo.after hostOps0 (V0 m c)
/-- When the equalising call is entered: the histogram written. -/
def atEq (c : Dev nD) : Valuation τ sig (Elt F) := Pipeline.afterRegion (histDat (atHist m) c) (atHist m c)
/-- When the last reshape is entered: the image equalised. -/
def atTail (c : Dev nD) : Valuation τ sig (Elt F) := Pipeline.afterRegion (eqDat (atEq m) c) (atEq m c)
/-- At the end. -/
def atEnd (c : Dev nD) : Valuation τ sig (Elt F) := StableHlo.after hostOps2 (atTail m c)

theorem atHist_arg0 (c : Dev nD) : atHist m c main_arg0 = m ((c : Thread nD τ).loc main_arg0) :=
  StableHlo.after_of_writes_sub hostOps0 _ hostOps0_writes (by decide)

theorem atEq_arg0 (c : Dev nD) : atEq m c main_arg0 = atHist m c main_arg0 :=
  Pipeline.afterRegion_keeps (histDat (atHist m) c) _ launch0.win.arr_inj (histDat_A (atHist m) c) main_arg0 (by decide)

theorem atTail_arg0 (c : Dev nD) : atTail m c main_arg0 = atEq m c main_arg0 :=
  Pipeline.afterRegion_keeps (eqDat (atEq m) c) _ launch1.win.arr_inj (eqDat_A (atEq m) c) main_arg0 (by decide)

/-- No item writes the argument. -/
theorem atEnd_arg0 (c : Dev nD) : atEnd m c main_arg0 = m ((c : Thread nD τ).loc main_arg0) :=
  (StableHlo.after_of_writes_sub hostOps2 _ hostOps2_writes (by decide)).trans
    ((atTail_arg0 m c).trans ((atEq_arg0 m c).trans (atHist_arg0 m c)))

/-- The reshaped image reaches the equalising call as the histogram call found it. -/
theorem atEq_v0 (c : Dev nD) : atEq m c main_v0 = atHist m c main_v0 :=
  Pipeline.afterRegion_keeps (histDat (atHist m) c) _ launch0.win.arr_inj (histDat_A (atHist m) c) main_v0 (by decide)

/-- The histogram array as the first pipeline leaves it, -/
theorem atEq_v1 (c : Dev nD) : atEq m c main_v1 = (histDat (atHist m) c).arrAt 1 cfg0.N :=
  Pipeline.afterRegion_arr (histDat (atHist m) c) (atHist m c) launch0.win.arr_inj 1

/-- and the equalised image as the second leaves it. -/
theorem atTail_v2 (c : Dev nD) : atTail m c main_v2 = (eqDat (atEq m) c).arrAt 2 cfg1.N :=
  Pipeline.afterRegion_arr (eqDat (atEq m) c) (atEq m c) launch1.win.arr_inj 2

/-! ## The two calls as segments -/

/-- Each pipeline's proof data at the buffers its call finds. -/
def pdats : (p : Fin 2) → (c : Dev nD) → Dat τ (Elt F) Unit ℕ (UR sig nD τ) ℕ (cfgs p) c
  | ⟨0, _⟩ => histDat (atHist m)
  | ⟨1, _⟩ => eqDat (atEq m)

/-- Every TensorCore cell may be waited on; nobody owes anything. -/
abbrev waitable : GSem nD τ sig → Finset Unit := fun g => if g.1.2 = .tc then {()} else ∅
abbrev level : GSem nD τ sig → Unit → ℕ := fun _ _ => 0
abbrev noDebt : Dev nD → CellTallies nD τ sig Unit := fun _ => 0
/-- The generator register at some state, which both calls pass through. -/
abbrev prng (c : Dev nD) : sProp 𝕄 := iprop(∃ r, prngReg c r)

/-- What rides beside the held buffers between the items. -/
abbrev beside (c : Dev nD) : sProp 𝕄 :=
  iprop((∃ W, owes (c : Thread nD τ) (0 : CellTallies nD τ sig Unit) W) ∗ prng c ∗ emp)

theorem levelCut (p : Fin 2) : Pipeline.LevelCut (pcfgs (F := F)) adm () waitable level p noDebt (fun _ => 0) where
  hι c w s := by simp [waitable]
  hιb c w s := le_refl 0
  hD c g i h := absurd h (by simp [noDebt])

theorem arrs0_sub : Pipeline.arrRefs (τ := τ) (pcfgs (F := F) 0).spec ⊆ Pipeline.ucRefs τ sig :=
  Pipeline.arrRefs_sub_ucRefs _ (show ∀ w : Fin 2, (Pipeline.arrRef spec0 w).isScoped = false by decide)
theorem arrs1_sub : Pipeline.arrRefs (τ := τ) (pcfgs (F := F) 1).spec ⊆ Pipeline.ucRefs τ sig :=
  Pipeline.arrRefs_sub_ucRefs _ (show ∀ w : Fin 3, (Pipeline.arrRef spec1 w).isScoped = false by decide)

set_option backward.isDefEq.respectTransparency.types false in
/-- The histogram call. -/
def histSeg : RegionSeg (pcfgs (F := F)) adm (pdats m) () defs₀ Variants.none waitable level 0 :=
  RegionSeg.ofHeldIn (pcfgs (F := F)) adm (pdats m) () defs₀ Variants.none waitable level 0 noDebt (Pipeline.ucRefs τ sig)
    prng prng launch0.toP rfl (fun c => (hist_obligation (atHist m) c).loose) (fun _ _ => rfl) (fun _ => rfl)
    (fun c w => Pipeline.Dat.share_full (histDat (atHist m) c) (fun _ => rfl) w)
    (fun c => .rfl) (fun c => .rfl) (fun _ => 0) (levelCut 0) (fun _ => iprop(emp)) (atHist m) (fun c w => histDat_A (atHist m) c w)

set_option backward.isDefEq.respectTransparency.types false in
/-- The equalising call. -/
def eqSeg : RegionSeg (pcfgs (F := F)) adm (pdats m) () defs₀ Variants.none waitable level 1 :=
  RegionSeg.ofHeldIn (pcfgs (F := F)) adm (pdats m) () defs₀ Variants.none waitable level 1 noDebt (Pipeline.ucRefs τ sig)
    prng prng launch1.toP rfl (fun c => (eq_obligation (atEq m) c).loose) (fun _ _ => rfl) (fun _ => rfl)
    (fun c w => Pipeline.Dat.share_full (eqDat (atEq m) c) (fun _ => rfl) w)
    (fun c => tablesInv_in (atEq m) c) (fun c => tablesInv_out (atEq m) c cfg1.N (le_refl _)) (fun _ => 0) (levelCut 1) (fun _ => iprop(emp))
    (atEq m) (fun c w => eqDat_A (atEq m) c w)

set_option backward.isDefEq.respectTransparency.types false in
theorem histSeg_pre (c : Dev nD) :
    iprop(StableHlo.held (c : Thread nD τ) (Pipeline.ucRefs τ sig) (atHist m c) ∗ beside c) ⊢ (histSeg m).pre c := by
  unfold histSeg; exact RegionSeg.ofHeldIn_pre (D := noDebt) (X := prng) (R := fun _ => iprop(emp)) (W := atHist m) arrs0_sub c

set_option backward.isDefEq.respectTransparency.types false in
theorem histSeg_post (c : Dev nD) :
    (histSeg m).post c ⊢ iprop(StableHlo.held (c : Thread nD τ) (Pipeline.ucRefs τ sig) (atEq m c) ∗ beside c) := by
  unfold histSeg; exact RegionSeg.ofHeldIn_post arrs0_sub c

set_option backward.isDefEq.respectTransparency.types false in
theorem eqSeg_pre (c : Dev nD) :
    iprop(StableHlo.held (c : Thread nD τ) (Pipeline.ucRefs τ sig) (atEq m c) ∗ beside c) ⊢ (eqSeg m).pre c := by
  unfold eqSeg; exact RegionSeg.ofHeldIn_pre (D := noDebt) (X := prng) (R := fun _ => iprop(emp)) (W := atEq m) arrs1_sub c

set_option backward.isDefEq.respectTransparency.types false in
theorem eqSeg_post (c : Dev nD) :
    (eqSeg m).post c ⊢ iprop(StableHlo.held (c : Thread nD τ) (Pipeline.ucRefs τ sig) (atTail m c) ∗ beside c) := by
  unfold eqSeg; exact RegionSeg.ofHeldIn_post arrs1_sub c

/-- The reshape before the calls, -/
def headSeg : HostSeg (Ix := Unit) (Name := ℕ) (U := UR sig nD τ) (Lvl := ℕ) (pcfgs (F := F)) defs₀ Variants.none waitable level :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) beside

/-- and the one after them. -/
def tailSeg : HostSeg (Ix := Unit) (Name := ℕ) (U := UR sig nD τ) (Lvl := ℕ) (pcfgs (F := F)) defs₀ Variants.none waitable level :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (atTail m) beside

/-- @main, item by item. -/
abbrev items : List (Seg (pcfgs (F := F)) adm (pdats m) () defs₀ Variants.none waitable level) :=
  [.host (headSeg m), .region (histSeg m), .region (eqSeg m), .host (tailSeg m)]

/-! ## The run -/

variable (ρ : Dev nD → PrngReg)

set_option backward.isDefEq.respectTransparency.types false in
/-- Every weakly fair execution of @main terminates with the argument as launched, the result at the last valuation and
    every semaphore counter at zero. -/
theorem run : θ_run defs (onTc (τ := τ) (main (F := F))) ⟨m, fun _ => 0, ρ⟩ (fun r => (∀ c : Dev nD,
      r.2.mem ((c : Thread nD τ).loc main_arg0) = m ((c : Thread nD τ).loc main_arg0)
        ∧ r.2.mem ((c : Thread nD τ).loc main_v3) = atEnd m c main_v3)
      ∧ r.2.sem = fun _ => 0) := by
  refine Pipeline.θ_run_regions_kit_dev_sems (pcfgs (F := F)) adm (pdats m) () cellOf_inj emb₁ defs₀ Variants.none waitable level m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [Seg.pipes_host, Seg.pipes_region, Seg.pipes_nil]; decide) (fun _ => 0)
    (fun g h => if_neg h) (fun _ => iprop(emp)) (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (atEnd m c))
    (hch := fun c => ⟨.rfl, histSeg_pre m c, (histSeg_post m c).trans (eqSeg_pre m c), eqSeg_post m c, sep_mono .rfl (by iintro ⟨HO, -, -⟩; iexact HO)⟩)
    (hinit := ?_)
    (QY := fun c s => s.mem ((c : Thread nD τ).loc main_arg0) = m ((c : Thread nD τ).loc main_arg0)
      ∧ s.mem ((c : Thread nD τ).loc main_v3) = atEnd m c main_v3)
    (hfin := fun c s' => ?_) (hQ := fun _ h hz => ⟨h, funext fun g => hz g (.inr (regions_no_unscoped g.2))⟩)
  · refine Pipeline.initEach waitable level fun c => ?_
    rw [Pipeline.unscopedBufs_held (Ix := Unit) (Name := ℕ) (U := UR sig nD τ) (Lvl := ℕ) c (V0 m c)]
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (atEnd_arg0 m c),
        h (Proc.devRef .tc main_v3) (Finset.mem_filter.mpr ⟨StableHlo.devRef_mem_tcRefs main_v3, by decide⟩)⟩
    · iexact HSI

end Cert.Proof.Ideal

end
-- ==== Proof.Frames.lean ====
/-
  The claims that say nothing of values: every program runs, leaves its argument as launched and ends with every semaphore
  counter at zero; and the idealised kernel is the kernel with its one constant named.
-/
module

public import proofs.«01_k».proof.Defs
public import proofs.«01_k».proof.Proof.Launch
public import proofs.«01_k».proof.Proof.LaunchBits
public import proofs.«01_k».proof.Proof.Gen.InterpolatedIdeal
public import proofs.«01_k».proof.Proof.Gen.InterpolatedIdeal.Run
public import proofs.«01_k».proof.Proof.Gen.ReferenceIdeal
public import proofs.«01_k».proof.Proof.Gen.ReferenceIdeal.Run
public import proofs.«01_k».proof.Proof.Gen.Pre_unit_range
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ =>
  (θ_run _ _ _).mono (fun _ h => ⟨fun c => (h.1 c).1, h.2⟩) (Bits.run (F := Bits) m ρ)

theorem frame_ideal : Cert.quiescent_KernelIdeal := fun m ρ _ =>
  (θ_run _ _ _).mono (fun _ h => ⟨fun c => (h.1 c).1, h.2⟩) (Ideal.run (F := Ideal) m ρ)

theorem frame_ideal_pre : Cert.quiescent_KernelIdeal_pre_unit_range := fun m ρ _ => frame_ideal m ρ trivial

theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

theorem frame_reference_pre : Cert.quiescent_ReferenceIdeal_pre_unit_range := fun m ρ _ => frame_reference m ρ trivial

theorem frame_interpolated : Cert.quiescent_InterpolatedIdeal := fun m ρ _ =>
  (θ_run _ _ _).mono (fun r h => ⟨fun c => (h c).2, sem_eq_zero_of_no_sems (by decide) r.2⟩)
    (Cert.InterpolatedIdeal.Value.run (F := Ideal) m ρ)

theorem frame_interpolated_pre : Cert.quiescent_InterpolatedIdeal_pre_unit_range := fun m ρ _ => frame_interpolated m ρ trivial

/-- The table gives the name `"c"` the value `-(200/2601)/log 2`, which is what the idealised kernel's constant denotes. -/
theorem preserves : Cert.preserves_Kernel_KernelIdeal :=
  IdealRules.named_const.statement Cert.KernelIdeal.κ "c" .f32 0xBDE3314D#32 ((-((200 / 2601) * (Real.log 2)⁻¹) : ℝ) : EReal) rfl

end Cert.Proof

end
-- ==== Proof.Weights.lean ====
/-
  The numbers of the problem as real numbers: the constants the two programs spell, the weight of a bin at a pixel, and
  the one scalar expression by which the kernel computes that weight.
-/
module

public import proofs.«01_k».proof.KernelIdeal
public import Idealize.ShloMosaic.Lib.Pointwise
public import Idealize.ShloMosaic.PureOps.IdealRules
public import Mathlib.Analysis.SpecialFunctions.Pow.Real

@[expose] public section

noncomputable section

namespace Cert.Proof

open Idealize.ShloMosaic

/-! ## The constants -/

/-- What both programs add to a denominator. -/
def eps : ℝ := 14411519 / 2 ^ 57

theorem eps_pos : 0 < eps := by unfold eps; positivity

theorem word_eps : Ideal.ofBits .f32 0x2EDBE6FF#32 = (eps : EReal) := by
  simp [Ideal.ofBits, Ideal.ieee, eps, -EReal.coe_mul]; norm_num
theorem word_1 : Ideal.ofBits .f32 0x3F800000#32 = ((1 : ℝ) : EReal) := by
  simp [Ideal.ofBits, Ideal.ieee, -EReal.coe_mul, -EReal.coe_one]; norm_num
theorem word_255 : Ideal.ofBits .f32 0x437F0000#32 = ((255 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_5000 : Ideal.ofBits .f32 0x459C4000#32 = ((5000 : ℝ) : EReal) := by
  simp [Ideal.ofBits, Ideal.ieee, -EReal.coe_mul]; norm_num
/-- The distance of two knots in bins, 255/2048. -/
theorem word_knot : Ideal.ofBits .f32 0x3DFF0000#32 = ((255 / 2048 : ℝ) : EReal) := by
  simp [Ideal.ofBits, Ideal.ieee, -EReal.coe_mul]; norm_num

/-! ## The weight -/

/-- The weight of bin `j` at a pixel of intensity `u`, both counted in bins (an intensity `x` lies at `255 x`):
    `exp (-(u - j)² / (2 · 2.55²))`, the bins lying `1/255` apart and the bandwidth being `0.01`. -/
def bump (u j : ℝ) : ℝ := Real.exp (-(200 / 2601) * ((u - j) * (u - j)))

theorem bump_pos (u j : ℝ) : 0 < bump u j := Real.exp_pos _

/-- What the kernel's named constant denotes. -/
theorem named_c : Named.named (F := Ideal) Cert.KernelIdeal.κ "c" (φ := .f32) 0xBDE3314D#32
    = ((-((200 / 2601) * (Real.log 2)⁻¹) : ℝ) : EReal) :=
  IdealRules.named_const.ideal_named_scalar _ _ _ _ rfl

/-- The kernel's weight: two to the power of the squared distance times its constant. -/
theorem exp2_weight (u j : ℝ) :
    (FloatOps.exp2 (F := Ideal) (φ := .f32) (((u : EReal) - (j : EReal)) * ((u : EReal) - (j : EReal))
      * Named.named (F := Ideal) Cert.KernelIdeal.κ "c" (φ := .f32) 0xBDE3314D#32) : EReal) = (bump u j : EReal) := by
  rw [named_c, ← EReal.coe_sub, ← EReal.coe_mul, ← EReal.coe_mul]
  show Ideal.exp2 _ = _
  rw [Ideal.exp2_coe]
  show (((2 : ℝ) ^ ((u - j) * (u - j) * -(200 / 2601 * (Real.log 2)⁻¹) : ℝ) : ℝ) : EReal) = _
  rw [Real.rpow_def_of_pos (by norm_num), bump]
  have h : Real.log 2 ≠ 0 := (Real.log_pos (by norm_num)).ne'
  congr 2
  field_simp

/-- An index below 2048 as a word, read as a signed number, is the index. -/
theorem sitofp_ofNat (n : ℕ) (h : n < 2048) : (FloatOps.sitofp (F := Ideal) FTy.f32 (BitVec.ofNat 32 n) : EReal) = ((n : ℝ) : EReal) := by
  show (((BitVec.ofNat 32 n).toInt : ℝ) : EReal) = _
  have hn : (BitVec.ofNat 32 n).toNat = n := by rw [BitVec.toNat_ofNat]; omega
  rw [BitVec.toInt_eq_toNat_of_lt (by omega), hn]
  simp

/-- A sum of real numbers among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers, the divisor not zero. -/
theorem div_real (x : ℝ) {y : ℝ} (h : y ≠ 0) : Ideal.div (x : EReal) (y : EReal) = ((x / y : ℝ) : EReal) := by
  rw [Ideal.div_coe h, ← EReal.coe_mul]; congr 1; ring

end Cert.Proof

end
-- ==== Proof.HistBlock.lean ====
/-
  What one point of the histogram call adds, as real numbers: to bin `j` and lane `l` the 32 weights of the block's column.
-/
module

public import proofs.«01_k».proof.Proof.HistRegion
public import proofs.«01_k».proof.Proof.Weights

@[expose] public section

noncomputable section

namespace Cert.Proof.Ideal

open Cert.KernelIdeal Cert.KernelIdeal.Gen
open Idealize.ShloMosaic

/-- The bin numbers. -/
theorem bins_apply (j : Fin 256) (l : Fin 128) : (k0_pay4 (F := Ideal) (ix2 j l) : EReal) = ((j.val : ℝ) : EReal) := by
  pointwise [k0_pay4]
  exact sitofp_ofNat _ (by omega)

/-- The pixels in bins. -/
theorem histRows_apply (x0 : Vec Ideal S1x32x128 .f32) (p : ℕ → ℕ → ℝ)
    (hp : ∀ (r : Fin 32) (l : Fin 128), (x0 (ix3 0 r l) : EReal) = ((p r.val l.val : ℝ) : EReal)) (r : Fin 32) (l : Fin 128) :
    (histRows x0 (ix2 r l) : EReal) = ((p r.val l.val * 255 : ℝ) : EReal) := by
  pointwise [histRows, k0_pay3]
  rw [hp, word_255, EReal.coe_mul]

/-- The accumulator after a point, at a bin and a lane. -/
theorem histStep_apply (x0 : Vec Ideal S1x32x128 .f32) (acc : Vec Ideal S1x256x128 .f32) (p : ℕ → ℕ → ℝ)
    (hp : ∀ (r : Fin 32) (l : Fin 128), (x0 (ix3 0 r l) : EReal) = ((p r.val l.val : ℝ) : EReal)) (j : Fin 256) (l : Fin 128)
    (a : ℝ) (ha : (acc (ix3 0 j l) : EReal) = (a : EReal)) :
    (histStep x0 acc (ix3 0 j l) : EReal) = ((a + ∑ r ∈ Finset.range 32, bump (p r l.val * 255) j.val : ℝ) : EReal) := by
  have hr := fun r => histRows_apply x0 p hp r l
  have hb := bins_apply j l
  pointwise [histStep, k0_pay1, k0_pay5, k0_pay6, k0_pay7, k0_pay8, k0_pay9, k0_pay10, k0_pay11, k0_pay12, k0_pay13, k0_pay14]
  simp only [histRows] at hr
  simp only [hr, hb, ha, exp2_weight, ← EReal.coe_add]
  congr 1
  simp only [Finset.sum_range_succ, Finset.sum_range_zero, zero_add]
  simp only [← add_assoc]
  rfl

end Cert.Proof.Ideal

end
-- ==== Proof.HistArray.lean ====
/-
  What the histogram call leaves: at image `b`, bin `j` and lane `l`, the sum of the image's weights on the bin, over the
  pixels of that lane. The accumulator is the sum over the rows seen so far (by induction over the grid), and the blocks
  written back at each image's last point tile the array.
-/
module

public import proofs.«01_k».proof.Proof.HistBlock

@[expose] public section

noncomputable section

namespace Cert.Proof.Ideal

open Cert.KernelIdeal Cert.KernelIdeal.Gen
open Idealize.ShloMosaic Idealize.ShloMosaic.TcCoe
open Idealize.ShloMosaic.Pipeline (Dat)

variable (V : Dev nD → Valuation τ sig (Elt Ideal)) (c : Dev nD)

/-- The image as the two calls find it, in rows of 128: `px b q` is pixel `q` of image `b`. -/
def Holds (px : ℕ → ℕ → ℝ) : Prop := ∀ (b : Fin 4) (r : Fin 2048) (l : Fin 128),
  V c main_v0 (ix3 b r l) = ((px b.val (128 * r.val + l.val) : ℝ) : EReal)

/-- Image `b`'s weight on bin `j` over the first `n` pixels of lane `l`. -/
def laneSum (px : ℕ → ℕ → ℝ) (b n j l : ℕ) : ℝ := ∑ r ∈ Finset.range n, bump (px b (128 * r + l) * 255) j

/-- Which block of the image a point reads, and which block of the histogram it works on. -/
theorem index0 : ∀ t : Fin cfg0.N, t.val < 256
    ∧ win0_0.index t (0 : Fin 3) = t.val / 64 ∧ win0_0.index t (1 : Fin 3) = t.val % 64 ∧ win0_0.index t (2 : Fin 3) = 0
    ∧ win0_1.index t (0 : Fin 3) = t.val / 64 ∧ win0_1.index t (1 : Fin 3) = 0 ∧ win0_1.index t (2 : Fin 3) = 0
    ∧ ((cfg0.win 1).flush t = true → t.val % 64 = 63) :=
  (by decide +kernel : ∀ t : Fin grid0.N, _)

/-- An image's last point writes its block back. -/
theorem last0 : ∀ b : Fin 4, ∃ t : Fin cfg0.N, (cfg0.win 1).flush t = true ∧ t.val / 64 = b.val :=
  (by decide +kernel : ∀ b : Fin 4, ∃ t : Fin grid0.N, win0_1.flush t = true ∧ t.val / 64 = b.val)

theorem block0_apply (px : ℕ → ℕ → ℝ) (h : Holds V c px) (t : Fin cfg0.N) (r : Fin 32) (l : Fin 128) :
    block0 V c 0 t (ix3 0 r l) = ((px (t.val / 64) (128 * (32 * (t.val % 64) + r.val) + l.val) : ℝ) : EReal) := by
  obtain ⟨ht, e0, e1, e2, -⟩ := index0 t
  have hi : ((cfg0.win 0).blk t).view.emb (ix3 (0 : Fin 1) r l)
      = ix3 (⟨t.val / 64, by omega⟩ : Fin 4) (⟨32 * (t.val % 64) + r.val, by omega⟩ : Fin 2048) l := by
    funext a
    apply Fin.ext
    match a with
    | ⟨0, _⟩ => show win0_0.index t (0 : Fin 3) * 1 + 1 * 0 = t.val / 64; omega
    | ⟨1, _⟩ => show win0_0.index t (1 : Fin 3) * 32 + 1 * r.val = 32 * (t.val % 64) + r.val; omega
    | ⟨2, _⟩ => show win0_0.index t (2 : Fin 3) * 128 + 1 * l.val = l.val; omega
  show V c main_v0 (((cfg0.win 0).blk t).view.emb (ix3 (0 : Fin 1) r l)) = _
  rw [hi, h]

/-- One step adds its block's thirty-two rows. -/
theorem histStep_rows (px : ℕ → ℕ → ℝ) (h : Holds V c px) (t : Fin cfg0.N) (acc : Vec Ideal S1x256x128 .f32) (j : Fin 256)
    (l : Fin 128) (hacc : acc (ix3 0 j l) = ((laneSum px (t.val / 64) (32 * (t.val % 64)) j.val l.val : ℝ) : EReal)) :
    histStep (block0 V c 0 t) acc (ix3 0 j l)
      = ((laneSum px (t.val / 64) (32 * (t.val % 64 + 1)) j.val l.val : ℝ) : EReal) := by
  rw [histStep_apply _ _ (fun r l => px (t.val / 64) (128 * (32 * (t.val % 64) + r) + l))
    (fun r l => block0_apply V c px h t r l) j l _ hacc, laneSum, laneSum, Nat.mul_add, Finset.sum_range_add]

theorem zeros_apply (j : Fin 256) (l : Fin 128) : (k0_pay2 (F := Ideal)) (ix3 (0 : Fin 1) j l) = ((0 : ℝ) : EReal) := by
  pointwise [k0_pay2]
  rfl

/-- The accumulator after point `n`. -/
theorem histAt_apply (px : ℕ → ℕ → ℝ) (h : Holds V c px) (j : Fin 256) (l : Fin 128) (n : ℕ) (hn : n < cfg0.N) :
    histAt V c n hn (ix3 0 j l) = ((laneSum px (n / 64) (32 * (n % 64 + 1)) j.val l.val : ℝ) : EReal) := by
  induction n with
  | zero => exact histStep_rows V c px h ⟨0, hn⟩ _ j l (by rw [zeros_apply]; rfl)
  | succ n ih =>
    by_cases hm : (n + 1) % 64 = 0
    · rw [histAt_first V c ⟨n + 1, hn⟩ hm]
      refine histStep_rows V c px h ⟨n + 1, hn⟩ _ j l ?_
      rw [zeros_apply]
      show _ = ((laneSum px ((n + 1) / 64) (32 * ((n + 1) % 64)) j.val l.val : ℝ) : EReal)
      rw [hm]
      rfl
    · rw [histAt_later V c ⟨n + 1, hn⟩ hm]
      refine histStep_rows V c px h ⟨n + 1, hn⟩ _ j l ?_
      show histAt V c n _ (ix3 0 j l) = ((laneSum px ((n + 1) / 64) (32 * ((n + 1) % 64)) j.val l.val : ℝ) : EReal)
      rw [ih, show (n + 1) / 64 = n / 64 by omega, show (n + 1) % 64 = n % 64 + 1 by omega]

/-- The histogram array, as a function of its index. -/
def histArray (px : ℕ → ℕ → ℝ) : S4x256x128.Idx → EReal := fun i =>
  ((laneSum px (i 0).val 2048 (i 1).val (i 2).val : ℝ) : EReal)

theorem hist_flushed (px : ℕ → ℕ → ℝ) (h : Holds V c px) (t : Fin cfg0.N) (hf : (cfg0.win 1).flush t = true) :
    (histDat V c).flushed 1 t = ((cfg0.win 1).blk t).view.read (Elt Ideal) (histArray px) := by
  obtain ⟨-, -, -, -, e0, e1, e2, e3⟩ := index0 t
  show (cfg0.win 1).cut (grid0.coords t) ((histDat V c).after 1 t) = _
  rw [histDat_after1]
  funext y
  have h0 : (((cfg0.win 1).blk t).view.emb y 0).val = t.val / 64 := by
    have h0 : (((cfg0.win 1).blk t).view.emb y 0).val = win0_1.index t (0 : Fin 3) * 1 + 1 * (y 0).val := rfl
    have : (y 0).val < 1 := (y 0).isLt
    omega
  have h1 : (((cfg0.win 1).blk t).view.emb y 1).val = (y 1).val := by
    have h1 : (((cfg0.win 1).blk t).view.emb y 1).val = win0_1.index t (1 : Fin 3) * 256 + 1 * (y 1).val := rfl
    omega
  have h2 : (((cfg0.win 1).blk t).view.emb y 2).val = (y 2).val := by
    have h2 : (((cfg0.win 1).blk t).view.emb y 2).val = win0_1.index t (2 : Fin 3) * 128 + 1 * (y 2).val := rfl
    omega
  have hy : (cfg0.win 1).xinj (grid0.coords t) y = ix3 (0 : Fin 1) (⟨(y 1).val, (y 1).isLt⟩ : Fin 256) (⟨(y 2).val, (y 2).isLt⟩ : Fin 128) := by
    funext a
    apply Fin.ext
    match a with
    | ⟨0, _⟩ => show (y 0).val = 0; have : (y 0).val < 1 := (y 0).isLt; omega
    | ⟨1, _⟩ => rfl
    | ⟨2, _⟩ => rfl
  show histAt V c t.val t.isLt ((cfg0.win 1).xinj (grid0.coords t) y) = histArray px (((cfg0.win 1).blk t).view.emb y)
  rw [hy, histAt_apply V c px h, histArray, h0, h1, h2, e3 hf]

/-- The histogram call's result. -/
theorem hist_final (px : ℕ → ℕ → ℝ) (h : Holds V c px) : (histDat V c).arrAt 1 cfg0.N = histArray px :=
  (histDat V c).arrAt_eq_of_cover 1 _ (fun t hf => hist_flushed V c px h t hf) (fun i => by
    obtain ⟨t, hf, ht⟩ := last0 ⟨(i 0).val, (i 0).isLt⟩
    obtain ⟨-, -, -, -, e0, e1, e2, -⟩ := index0 t
    refine ⟨t, hf, ?_⟩
    have h1 : (i 1).val < 256 := (i 1).isLt
    have h2 : (i 2).val < 128 := (i 2).isLt
    show i ∈ ((View.whole main_v1).slice (win0_1.rect t)).set
    rw [View.set_slice_whole, Rect.mem_set_unit]
    intro a
    match a with
    | ⟨0, _⟩ => show win0_1.index t (0 : Fin 3) * 1 ≤ (i 0).val ∧ (i 0).val < win0_1.index t (0 : Fin 3) * 1 + 1; simp only at ht; omega
    | ⟨1, _⟩ => show win0_1.index t (1 : Fin 3) * 256 ≤ (i 1).val ∧ (i 1).val < win0_1.index t (1 : Fin 3) * 256 + 256; omega
    | ⟨2, _⟩ => show win0_1.index t (2 : Fin 3) * 128 ≤ (i 2).val ∧ (i 2).val < win0_1.index t (2 : Fin 3) * 128 + 128; omega)

end Cert.Proof.Ideal

end
-- ==== Proof.Lookup.lean ====
/-
  The problem's mathematics on real numbers: a histogram's normalised cumulative distribution and the look-up of an
  intensity in it, both over 256 bins. The two programs are each shown to compute these.
-/
module

public import proofs.«01_k».proof.Proof.Weights
public import Mathlib.Algebra.BigOperators.Fin

@[expose] public section

noncomputable section

namespace Cert.Proof

open Idealize.ShloMosaic

/-- The cumulative distribution of a histogram `H`: its mass up to bin `j` over its whole mass. -/
def cum (H : ℕ → ℝ) (j : ℕ) : ℝ := (∑ k ∈ Finset.range (j + 1), H k) / (∑ k ∈ Finset.range 256, H k + eps)

/-- The distribution carried to start at zero and end at one. -/
def level (H : ℕ → ℝ) (j : ℕ) : ℝ := (cum H j - cum H 0) / (1 - cum H 0 + eps)

/-- What an intensity of `u` bins is mapped to: the mean of the levels under the weights of the bins at `u`. -/
def lookup (H : ℕ → ℝ) (u : ℝ) : ℝ :=
  (∑ j ∈ Finset.range 256, bump u j * level H j) / (∑ j ∈ Finset.range 256, bump u j + eps)

variable {H : ℕ → ℝ}

theorem mass_pos (hH : ∀ k, 0 ≤ H k) : 0 < ∑ k ∈ Finset.range 256, H k + eps :=
  add_pos_of_nonneg_of_pos (Finset.sum_nonneg fun k _ => hH k) eps_pos

/-- The first bin holds no more than everything, so the divisor of `level` is not zero. -/
theorem span_pos (hH : ∀ k, 0 ≤ H k) : 0 < 1 - cum H 0 + eps := by
  have hm := mass_pos hH
  have h1 : cum H 0 ≤ 1 := by
    unfold cum
    rw [div_le_one hm]
    have : ∑ k ∈ Finset.range (0 + 1), H k ≤ ∑ k ∈ Finset.range 256, H k :=
      Finset.sum_le_sum_of_subset_of_nonneg (by intro a; simp; omega) fun k _ _ => hH k
    linarith [eps_pos]
  linarith [eps_pos]

theorem weights_pos (u : ℝ) : 0 < ∑ j ∈ Finset.range 256, bump u j + eps :=
  add_pos_of_nonneg_of_pos (Finset.sum_nonneg fun k _ => (bump_pos u k).le) eps_pos

/-- A sum over the bins masked to those not above `j` is the mass up to `j`. -/
theorem masked_sum (j : ℕ) (hj : j < 256) :
    ∑ k ∈ Finset.range 256, (if k ≤ j then 1 else 0 : ℝ) * H k = ∑ k ∈ Finset.range (j + 1), H k := by
  simp only [ite_mul, one_mul, zero_mul]
  rw [← Finset.sum_filter]
  refine Finset.sum_congr ?_ fun _ _ => rfl
  ext k; simp; omega

/-- A sum of real numbers over the indices below `n`, among the extended reals, as a sum over a range. -/
theorem coe_sum_fin {n : ℕ} (f : ℕ → ℝ) : ∑ i : Fin n, (f i.val : EReal) = ((∑ i ∈ Finset.range n, f i : ℝ) : EReal) := by
  rw [coe_sum, Finset.sum_range]

end Cert.Proof

end
-- ==== Proof.EqTables.lean ====
/-
  The look-up table of one image, as real numbers: row `s`, lane `l` of the seventeen rows holds the look-up of the histogram
  at the knot `s * 128 + l`, and the table of differences holds the next knot's value less this one's.
-/
module

public import proofs.«01_k».proof.Proof.EqRegion
public import proofs.«01_k».proof.Proof.Lookup

@[expose] public section

set_option maxHeartbeats 1000000

noncomputable section

namespace Cert.Proof.Ideal

open Cert.KernelIdeal Cert.KernelIdeal.Gen
open Idealize.ShloMosaic

/-! ## The bins, the lanes and the normalised distribution -/

theorem bins1_apply (j : Fin 256) (l : Fin 128) : (k1_pay2 (F := Ideal) (ix2 j l) : EReal) = ((j.val : ℝ) : EReal) := by
  pointwise [k1_pay2]
  exact sitofp_ofNat _ (by omega)

theorem lanes_apply (l : Fin 128) : (k1_pay3 (F := Ideal) (ix2 0 l) : EReal) = ((l.val : ℝ) : EReal) := by
  pointwise [k1_pay3]
  exact sitofp_ofNat _ (by omega)

/-- The comparison of two bin numbers, widened and read as a number: one where `k` is not above `j`. -/
theorem tri_apply (j k : ℕ) (hj : j < 256) (hk : k < 256) :
    (FloatOps.sitofp (F := Ideal) FTy.f32 (BitVec.setWidth 32 (IntOp.cmpi .sge (BitVec.ofNat 32 j) (BitVec.ofNat 32 k))) : EReal)
      = ((if k ≤ j then 1 else 0 : ℝ) : EReal) := by
  have hn : ∀ n < 256, (BitVec.ofNat 32 n).toInt = n := fun n h => by
    have hn : (BitVec.ofNat 32 n).toNat = n := by rw [BitVec.toNat_ofNat]; omega
    rw [BitVec.toInt_eq_toNat_of_lt (by omega), hn]
  show ((((BitVec.setWidth 32 (IntOp.cmpi .sge (BitVec.ofNat 32 j) (BitVec.ofNat 32 k))).toInt : ℤ) : ℝ) : EReal) = _
  have hc : IntOp.cmpi .sge (BitVec.ofNat 32 j) (BitVec.ofNat 32 k) = if k ≤ j then 1#1 else 0#1 := by
    by_cases h : k ≤ j
    · simp [IntOp.cmpi, BitVec.sle, hn j hj, hn k hk, h]
    · simp [IntOp.cmpi, BitVec.sle, hn j hj, hn k hk, h]
  rw [hc]
  by_cases h : k ≤ j <;> simp [h]

variable (h : Vec Ideal S1x256x128 .f32) (B : ℕ → ℕ → ℝ)

/-- The histogram as real numbers: the block's lanes added up. -/
abbrev binSum (j : ℕ) : ℝ := ∑ l ∈ Finset.range 128, B j l

/-- The levels the body makes of the histogram block. -/
theorem levels_apply (hB : ∀ (j : Fin 256) (l : Fin 128), (h (ix3 0 j l) : EReal) = ((B j.val l.val : ℝ) : EReal))
    (h0 : ∀ j l, 0 ≤ B j l) (j : Fin 256) (l : Fin 128) :
    (k1_pay1 (F := Ideal) h (ix2 j l) : EReal) = ((level (binSum B) j.val : ℝ) : EReal) := by
  have hpos : ∀ k, 0 ≤ binSum B k := fun k => Finset.sum_nonneg fun l _ => h0 k l
  have hm := mass_pos hpos
  have hs := span_pos hpos
  have hsum : ∀ j < 256, (∑ x : Fin 256, (FloatOps.sitofp (F := Ideal) FTy.f32 (BitVec.setWidth 32 (IntOp.cmpi .sge (BitVec.ofNat 32 j) (BitVec.ofNat 32 x.val))) : EReal)
      * ∑ l : Fin 128, (h (ix3 0 x l) : EReal)) = ((∑ k ∈ Finset.range (j + 1), binSum B k : ℝ) : EReal) := fun j hj => by
    rw [← masked_sum j hj, ← coe_sum_fin (n := 256) (fun k => (if k ≤ j then 1 else 0 : ℝ) * binSum B k)]
    refine Finset.sum_congr rfl fun x _ => ?_
    rw [tri_apply j x.val hj x.isLt, EReal.coe_mul, Finset.sum_congr rfl (fun l _ => hB x l), coe_sum_fin (n := 128) (B x.val)]
  have e0 := hsum 0 (by omega); have e255 := hsum 255 (by omega)
  pointwise [k1_pay1]
  rw [hsum j.val j.isLt]
  rw [e0, e255, word_eps, ← EReal.coe_add, ← EReal.coe_one, div_real _ hm.ne', ← EReal.coe_mul, ← EReal.coe_mul, ← EReal.coe_sub]
  have hc : ∀ i, (∑ k ∈ Finset.range (i + 1), binSum B k) * (1 / (∑ k ∈ Finset.range (255 + 1), binSum B k + eps)) = cum (binSum B) i :=
    fun i => by unfold cum; rw [mul_one_div]
  rw [hc, hc, ← EReal.coe_sub, ← EReal.coe_add, div_real _ hs.ne', ← EReal.coe_mul]
  congr 1
  unfold level; rw [mul_one_div]

/-! ## The rows -/

/-- The quotient every row ends in, at a position of `u` bins. -/
theorem row_quotient (hB : ∀ (j : Fin 256) (l : Fin 128), (h (ix3 0 j l) : EReal) = ((B j.val l.val : ℝ) : EReal))
    (h0 : ∀ j l, 0 ≤ B j l) (l : Fin 128) (u : ℝ) :
    Ideal.div (∑ j : Fin 256, ((bump u j.val : ℝ) : EReal) * (k1_pay1 (F := Ideal) h (ix2 j l) : EReal))
      (∑ j : Fin 256, ((bump u j.val : ℝ) : EReal) + Ideal.ofBits .f32 0x2EDBE6FF#32) = ((lookup (binSum B) u : ℝ) : EReal) := by
  have hnum : (∑ j : Fin 256, ((bump u j.val : ℝ) : EReal) * (k1_pay1 (F := Ideal) h (ix2 j l) : EReal))
      = ((∑ j ∈ Finset.range 256, bump u j * level (binSum B) j : ℝ) : EReal) := by
    rw [← coe_sum_fin (n := 256) (fun j => bump u j * level (binSum B) j)]
    exact Finset.sum_congr rfl fun j _ => by rw [levels_apply h B hB h0, EReal.coe_mul]
  rw [hnum, coe_sum_fin (n := 256) (fun j => bump u j), word_eps, ← EReal.coe_add, div_real _ (weights_pos u).ne']
  rfl

/-- A row of the table whose first knot is the number `b` spells: at each lane the weights of the bins at the knot, and the
    mean of the levels under them. -/
def rowFrom (b : BitVec 32) (h : Vec Ideal S1x256x128 .f32) : FVec Ideal S1x128 .f32 :=
  let at_ : FVec Ideal S1x128 .f32 := mulf (addf k1_pay3 (broadcast S1x128 (Scalar.ofBits .f32 b))) (broadcast S1x128 (Scalar.ofBits .f32 0x3DFF0000#32))
  let off : FVec Ideal S256x128 .f32 := subf (broadcastTo S256x128 at_ broadcasts_S1x128_S256x128) k1_pay2
  let w : FVec Ideal S256x128 .f32 := exp2 (mulf (mulf off off) (broadcast S256x128 (Named.named κ "c" 0xBDE3314D#32)))
  divf (shapeCast S1x128 (multiReduction .add [0] S128 (mulf w (k1_pay1 h)) 0x00000000#32 reduces_S256x128_S128 (.inl rfl) rfl) shapeCasts_S128_S1x128)
    (addf (shapeCast S1x128 (multiReduction .add [0] S128 w 0x00000000#32 reduces_S256x128_S128 (.inl rfl) rfl) shapeCasts_S128_S1x128)
      (broadcast S1x128 (Scalar.ofBits .f32 0x2EDBE6FF#32)))

/-- The rows the body stacks are seventeen of these. -/
theorem tableRows_eq : tableRows (F := Ideal) h = concatenate S17x128 0 [⟨S1x128, rowFrom 0x00000000#32 h⟩, ⟨S1x128, rowFrom 0x43000000#32 h⟩, ⟨S1x128, rowFrom 0x43800000#32 h⟩, ⟨S1x128, rowFrom 0x43C00000#32 h⟩, ⟨S1x128, rowFrom 0x44000000#32 h⟩, ⟨S1x128, rowFrom 0x44200000#32 h⟩, ⟨S1x128, rowFrom 0x44400000#32 h⟩, ⟨S1x128, rowFrom 0x44600000#32 h⟩, ⟨S1x128, rowFrom 0x44800000#32 h⟩, ⟨S1x128, rowFrom 0x44900000#32 h⟩, ⟨S1x128, rowFrom 0x44A00000#32 h⟩, ⟨S1x128, rowFrom 0x44B00000#32 h⟩, ⟨S1x128, rowFrom 0x44C00000#32 h⟩, ⟨S1x128, rowFrom 0x44D00000#32 h⟩, ⟨S1x128, rowFrom 0x44E00000#32 h⟩, ⟨S1x128, rowFrom 0x44F00000#32 h⟩, ⟨S1x128, rowFrom 0x45000000#32 h⟩]
    concatenates_S1x128_S1x128_S1x128_S1x128_S1x128_S1x128_S1x128_S1x128_S1x128_S1x128_S1x128_S1x128_S1x128_S1x128_S1x128_S1x128_S1x128_S17x128_d0 := rfl

theorem rowFrom_apply (hB : ∀ (j : Fin 256) (l : Fin 128), (h (ix3 0 j l) : EReal) = ((B j.val l.val : ℝ) : EReal))
    (h0 : ∀ j l, 0 ≤ B j l) (b : BitVec 32) (v : ℝ) (hv : Ideal.ofBits .f32 b = (v : EReal)) (l : Fin 128) :
    (rowFrom b h (ix2 0 l) : EReal) = ((lookup (binSum B) ((l.val + v : ℝ) * (255 / 2048)) : ℝ) : EReal) := by
  pointwise [rowFrom]
  simp only [lanes_apply, bins1_apply, word_knot, hv, ← EReal.coe_add, ← EReal.coe_mul, exp2_weight]
  exact row_quotient h B hB h0 l _

/-- The knot of a row and a lane. -/
abbrev knotAt (s l : ℕ) : ℝ := ((128 * s + l : ℕ) : ℝ) * (255 / 2048)

/-- The rows, at a row and a lane. -/
theorem tableF_apply (hB : ∀ (j : Fin 256) (l : Fin 128), (h (ix3 0 j l) : EReal) = ((B j.val l.val : ℝ) : EReal))
    (h0 : ∀ j l, 0 ≤ B j l) (s : Fin 17) (l : Fin 128) :
    (tableRows (F := Ideal) h (ix2 s l) : EReal) = ((lookup (binSum B) (knotAt s.val l.val) : ℝ) : EReal) := by
  have key : ∀ (b : BitVec 32), Ideal.ofBits .f32 b = ((128 * s.val : ℝ) : EReal) →
      (rowFrom b h (ix2 0 l) : EReal) = ((lookup (binSum B) (knotAt s.val l.val) : ℝ) : EReal) := fun b hv => by
    rw [rowFrom_apply h B hB h0 b _ hv, knotAt]; congr 2; push_cast; ring
  rw [tableRows_eq]
  fin_cases s <;> dsimp only [Fin.zero_eta, Fin.mk_one, Fin.reduceFinMk] <;> pointwise [] <;> refine key _ ?_ <;>
    simp [Ideal.ofBits, Ideal.ieee, -EReal.coe_mul] <;> norm_num

/-- The value stored at a row and a lane. -/
theorem tableF_value (hB : ∀ (j : Fin 256) (l : Fin 128), (h (ix3 0 j l) : EReal) = ((B j.val l.val : ℝ) : EReal))
    (h0 : ∀ j l, 0 ≤ B j l) (s : Fin 17) (l : Fin 128) :
    (tableF (F := Ideal) h (ix2 s l) : EReal) = ((lookup (binSum B) (knotAt s.val l.val) : ℝ) : EReal) := by
  pointwise [tableF, k1_pay40]
  exact tableF_apply h B hB h0 s l

/-- The difference stored at a row and a lane: the next knot's value less this one's, for every knot of the first sixteen rows. -/
theorem tableD_value (hB : ∀ (j : Fin 256) (l : Fin 128), (h (ix3 0 j l) : EReal) = ((B j.val l.val : ℝ) : EReal))
    (h0 : ∀ j l, 0 ≤ B j l) (s : Fin 17) (hs : s.val < 16) (l : Fin 128) :
    (tableD (F := Ideal) h (ix2 s l) : EReal)
      = ((lookup (binSum B) (((128 * s.val + l.val + 1 : ℕ) : ℝ) * (255 / 2048)) - lookup (binSum B) (knotAt s.val l.val) : ℝ) : EReal) := by
  pointwise [tableD, k1_pay41]
  rw [tableF_apply h B hB h0 s l, EReal.coe_sub]
  congr 1
  split
  · rw [tableF_apply h B hB h0]; simp only [knotAt]; rw [show 128 * s.val + (1 + l.val) = 128 * s.val + l.val + 1 by omega]
  · rw [tableF_apply h B hB h0]; simp only [knotAt]; rw [show 128 * (1 + s.val) + (l.val - 127) = 128 * s.val + l.val + 1 by omega]

end Cert.Proof.Ideal

end
-- ==== Proof.EqBlock.lean ====
/-
  What one point of the equalising call computes, at a pixel: the table of values' entry at the knot below the pixel, and
  the table of differences' entry there times how far the pixel lies beyond the knot.

  The body reads the first sixteen rows of a table one after the other: it gathers the pixel's lane of each row and keeps
  it where the row's number is the pixel's. `pick` is one such step and `picks` is any number of them.
-/
module

public import proofs.«01_k».proof.Proof.EqRegion
public import proofs.«01_k».proof.Proof.Weights

@[expose] public section

set_option maxHeartbeats 1000000

noncomputable section

namespace Cert.Proof.Ideal

open Cert.KernelIdeal Cert.KernelIdeal.Gen
open Idealize.ShloMosaic

theorem row_fits (s : ℕ) (hs : s < 17) : ∀ a, (![s, 0] : Fin 2 → ℕ) a + S1x128.size a ≤ S17x128.size a := by
  intro a
  match a with
  | 0 => exact hs
  | 1 => exact le_of_eq rfl

/-- Row `s` of a table, as the body loads it. -/
def rowOf (t : Vec Ideal S17x128 .f32) (s : ℕ) (hs : s < 17) : Vec Ideal S1x128 .f32 :=
  View.ld t (Rect.unit (s := S17x128) ![s, 0] S1x128.size (row_fits s hs))

theorem rowOf_apply (t : Vec Ideal S17x128 .f32) (s : ℕ) (hs : s < 17) (l : Fin 128) :
    rowOf t s hs (ix2 (0 : Fin 1) l) = t (ix2 (⟨s, hs⟩ : Fin 17) l) := by
  pointwise [rowOf]

/-- One row considered: where the pixel's row number `hi` is `s`, the row's entry at the pixel's lane `lo`; elsewhere what was
    there. -/
def pick (s : BitVec 32) (row : Vec Ideal S1x128 .f32) (hi lo : IVec S32x128 32) (prev : FVec Ideal S32x128 .f32) :
    FVec Ideal S32x128 .f32 :=
  select (cmpi .eq hi (broadcast S32x128 s))
    (dynamicGather 1 (broadcastTo S32x128 (shapeCast S1x128 row shapeCasts_S1x128_S1x128) broadcasts_S1x128_S32x128)
      (shapeCast S32x128
        (shapeCast S32x128x1
          (select (cmpi .slt lo (broadcast S32x128 0#32)) (addi lo (broadcast S32x128 128#32)) lo)
          shapeCasts_S32x128_S32x128x1) shapeCasts_S32x128x1_S32x128))
    prev

/-- A lane's word is not negative. -/
theorem lane_word : ∀ m : Fin 128, IntOp.cmpi .slt (BitVec.ofNat 32 m.val) 0#32 = 0#1 := by decide +kernel

/-- A knot's number in the body's words: it passes the cap, its seventh shift is its row and its last seven bits its lane. -/
theorem knot_words : ∀ n : Fin 2048, IntOp.minsi (BitVec.ofNat 32 n.val) 2047#32 = BitVec.ofNat 32 n.val
    ∧ IntOp.shrui .vector (BitVec.ofNat 32 n.val) 7#32 = BitVec.ofNat 32 (n.val / 128)
    ∧ IntOp.andi (BitVec.ofNat 32 n.val) 127#32 = BitVec.ofNat 32 (n.val % 128) := by decide +kernel

theorem pick_apply (s : BitVec 32) (row : Vec Ideal S1x128 .f32) (hi lo : IVec S32x128 32) (prev : FVec Ideal S32x128 .f32)
    (r : Fin 32) (l : Fin 128) (m : ℕ) (hm : m < 128) (hlo : lo (ix2 r l) = BitVec.ofNat 32 m) :
    pick s row hi lo prev (ix2 r l)
      = if hi (ix2 r l) = s then row (ix2 (0 : Fin 1) (⟨m, hm⟩ : Fin 128)) else prev (ix2 r l) := by
  have hs : Scalar.select (IntOp.cmpi CmpIPredicate.slt (BitVec.ofNat 32 m) 0#32)
      (IntOp.addi (BitVec.ofNat 32 m) 128#32) (BitVec.ofNat 32 m) = BitVec.ofNat 32 m := by
    rw [lane_word ⟨m, hm⟩]
    rfl
  have hmod : (BitVec.ofNat 32 m).toNat % 128 = m := by
    rw [BitVec.toNat_ofNat]
    omega
  pointwise [pick]
  simp only [hlo, hs, hmod]
  by_cases h : hi (ix2 r l) = s
  · simp [Scalar.select, IntOp.cmpi, h]
  · have hb : (hi (ix2 r l) == s) = false := beq_eq_false_iff_ne.mpr h
    simp [Scalar.select, IntOp.cmpi, h, hb]

/-- The first `n` rows of a table considered in turn. -/
def picks (t : Vec Ideal S17x128 .f32) (hi lo : IVec S32x128 32) : (n : ℕ) → n ≤ 17 → FVec Ideal S32x128 .f32
  | 0, _ => broadcast S32x128 (Scalar.ofBits .f32 0x00000000#32)
  | n + 1, h => pick (BitVec.ofNat 32 n) (rowOf t n h) hi lo (picks t hi lo n (Nat.le_of_succ_le h))

theorem picks_apply (t : Vec Ideal S17x128 .f32) (hi lo : IVec S32x128 32) (r : Fin 32) (l : Fin 128) (k m : ℕ)
    (hm : m < 128) (hk : k < 17) (hlo : lo (ix2 r l) = BitVec.ofNat 32 m) (hhi : hi (ix2 r l) = BitVec.ofNat 32 k)
    (n : ℕ) (hn : n ≤ 17) (hkn : k < n) :
    picks t hi lo n hn (ix2 r l) = t (ix2 (⟨k, hk⟩ : Fin 17) (⟨m, hm⟩ : Fin 128)) := by
  induction n with
  | zero => omega
  | succ n ih =>
    rw [picks, pick_apply _ _ _ _ _ _ _ m hm hlo, hhi]
    by_cases he : k = n
    · subst he
      rw [if_pos rfl, rowOf_apply]
    · have hne : BitVec.ofNat 32 k ≠ BitVec.ofNat 32 n := by
        intro h
        have := congrArg BitVec.toNat h
        simp only [BitVec.toNat_ofNat] at this
        omega
      rw [if_neg hne]
      exact ih _ (by omega)

theorem eqBlock_eq (x : Vec Ideal S1x32x128 .f32) (f d : Vec Ideal S17x128 .f32) :
    eqBlock x f d = shapeCast S1x32x128
      (addf (picks f (k1_pay46 x) (k1_pay47 x) 16 (by omega))
        (mulf (picks d (k1_pay46 x) (k1_pay47 x) 16 (by omega)) (k1_pay45 x))) shapeCasts_S32x128_S1x32x128 := rfl

/-- The knot below a pixel of the unit interval, as the body's word. -/
theorem knot_word (x : Vec Ideal S1x32x128 .f32) (r : Fin 32) (l : Fin 128) (p : ℝ) (n : ℕ) (hn : n < 2048)
    (hfl : ⌊p * 2048⌋ = (n : ℤ)) (hp : x (ix3 (0 : Fin 1) r l) = ((p : ℝ) : EReal)) :
    k1_pay44 x (ix2 r l) = BitVec.ofNat 32 n := by
  pointwise [k1_pay44, k1_pay43, k1_pay42]
  rw [hp, word_2048, ← EReal.coe_mul, Ideal.liftRound_coe, hfl]
  have hc : FloatOps.fptosi (F := Ideal) (φ := .f32) 32 (((n : ℤ) : ℝ) : EReal) = BitVec.ofNat 32 n := by
    show BitVec.ofInt 32 (Ideal.toIntClamped _ _ _) = _
    have h0 : (0 : ℝ) ≤ ((n : ℤ) : ℝ) := by positivity
    rw [Ideal.toIntClamped_coe, if_pos h0, Int.floor_intCast,
      show min (((2 ^ (32 - 1) : ℕ) : ℤ) - 1) (n : ℤ) = n by omega, show max (-((2 ^ (32 - 1) : ℕ) : ℤ)) (n : ℤ) = n by omega]
    exact BitVec.ofInt_natCast _ _
  rw [hc]
  exact (knot_words ⟨n, hn⟩).1

/-- The row of the knot below, as the body's word, -/
theorem row_word (x : Vec Ideal S1x32x128 .f32) (r : Fin 32) (l : Fin 128) (p : ℝ) (n : ℕ) (hn : n < 2048)
    (hfl : ⌊p * 2048⌋ = (n : ℤ)) (hp : x (ix3 (0 : Fin 1) r l) = ((p : ℝ) : EReal)) :
    k1_pay46 x (ix2 r l) = BitVec.ofNat 32 (n / 128) := by
  pointwise [k1_pay46]
  rw [knot_word x r l p n hn hfl hp]
  exact (knot_words ⟨n, hn⟩).2.1

/-- its lane, -/
theorem lane_word_of (x : Vec Ideal S1x32x128 .f32) (r : Fin 32) (l : Fin 128) (p : ℝ) (n : ℕ) (hn : n < 2048)
    (hfl : ⌊p * 2048⌋ = (n : ℤ)) (hp : x (ix3 (0 : Fin 1) r l) = ((p : ℝ) : EReal)) :
    k1_pay47 x (ix2 r l) = BitVec.ofNat 32 (n % 128) := by
  pointwise [k1_pay47]
  rw [knot_word x r l p n hn hfl hp]
  exact (knot_words ⟨n, hn⟩).2.2

/-- and how far beyond it the pixel lies. -/
theorem beyond_apply (x : Vec Ideal S1x32x128 .f32) (r : Fin 32) (l : Fin 128) (p : ℝ) (n : ℕ)
    (hfl : ⌊p * 2048⌋ = (n : ℤ)) (hp : x (ix3 (0 : Fin 1) r l) = ((p : ℝ) : EReal)) :
    k1_pay45 x (ix2 r l) = ((p * 2048 - (n : ℝ) : ℝ) : EReal) := by
  pointwise [k1_pay45, k1_pay43, k1_pay42]
  rw [hp, word_2048, ← EReal.coe_mul, Ideal.liftRound_coe, hfl, Int.cast_natCast, ← EReal.coe_sub]

/-- One point of the equalising call at a pixel. -/
theorem eqBlock_apply (x : Vec Ideal S1x32x128 .f32) (f d : Vec Ideal S17x128 .f32) (r : Fin 32) (l : Fin 128) (p : ℝ)
    (n : ℕ) (hn : n < 2048) (hfl : ⌊p * 2048⌋ = (n : ℤ)) (hp : x (ix3 (0 : Fin 1) r l) = ((p : ℝ) : EReal)) :
    eqBlock x f d (ix3 (0 : Fin 1) r l)
      = f (ix2 (⟨n / 128, by omega⟩ : Fin 17) (⟨n % 128, by omega⟩ : Fin 128))
        + d (ix2 (⟨n / 128, by omega⟩ : Fin 17) (⟨n % 128, by omega⟩ : Fin 128)) * ((p * 2048 - (n : ℝ) : ℝ) : EReal) := by
  rw [eqBlock_eq]
  pointwise []
  have h (t : Vec Ideal S17x128 .f32) := picks_apply t (k1_pay46 x) (k1_pay47 x) r l (n / 128) (n % 128) (by omega) (by omega)
    (lane_word_of x r l p n hn hfl hp) (row_word x r l p n hn hfl hp) 16 (by omega) (by omega)
  rw [h f, h d, beyond_apply x r l p n hfl hp]

end Cert.Proof.Ideal
-- ==== Proof.Equalised.lean ====
/-
  The equalised pixel as a real number: the look-up of a histogram at the knot below the pixel and at the next one, and
  the straight line between them. Both programs are shown to compute this.
-/
module

public import proofs.«01_k».proof.Proof.Lookup

@[expose] public section

noncomputable section

namespace Cert.Proof

/-- The look-up at knot `n`, the intensity `n / 2048` of the unit interval. -/
def atKnot (H : ℕ → ℝ) (n : ℕ) : ℝ := lookup H ((n : ℝ) * (255 / 2048))

/-- The knot below the intensity `p`. -/
def knotBelow (p : ℝ) : ℕ := ⌊p * 2048⌋₊

/-- The pixel `p` equalised by the histogram `H`. -/
def equalised (H : ℕ → ℝ) (p : ℝ) : ℝ :=
  atKnot H (knotBelow p) + (atKnot H (knotBelow p + 1) - atKnot H (knotBelow p)) * (p * 2048 - (knotBelow p : ℝ))

theorem knotBelow_floor {p : ℝ} (h0 : 0 ≤ p) : ⌊p * 2048⌋ = (knotBelow p : ℤ) :=
  (Int.natCast_floor_eq_floor (by positivity)).symm

theorem knotBelow_lt {p : ℝ} (h0 : 0 ≤ p) (h1 : p < 1) : knotBelow p < 2048 :=
  (Nat.floor_lt (by positivity)).mpr (by push_cast; linarith)

/-- Image `b`'s histogram: each bin's weight summed over the pixels. -/
def histogram (px : ℕ → ℕ → ℝ) (b : ℕ) : ℕ → ℝ := fun j => ∑ q ∈ Finset.range 262144, bump (px b q * 255) j

theorem histogram_nonneg (px : ℕ → ℕ → ℝ) (b j : ℕ) : 0 ≤ histogram px b j :=
  Finset.sum_nonneg fun _ _ => (bump_pos _ _).le

/-- A sum over rows of 128 is a sum over the pixels. -/
theorem sum_rows (f : ℕ → ℝ) (n : ℕ) :
    ∑ q ∈ Finset.range (128 * n), f q = ∑ r ∈ Finset.range n, ∑ l ∈ Finset.range 128, f (128 * r + l) := by
  induction n with
  | zero => rfl
  | succ n ih =>
    rw [Nat.mul_succ, Finset.sum_range_add, ih]
    exact (Finset.sum_range_succ (fun r => ∑ l ∈ Finset.range 128, f (128 * r + l)) n).symm

end Cert.Proof

end
-- ==== Proof.EqArray.lean ====
/-
  What the equalising call leaves: every pixel equalised by its image's histogram. The tables a point reads are those of
  its image's histogram block, and the blocks written back tile the array.
-/
module

public import proofs.«01_k».proof.Proof.HistArray
public import proofs.«01_k».proof.Proof.EqTables
public import proofs.«01_k».proof.Proof.EqBlock
public import proofs.«01_k».proof.Proof.Equalised

@[expose] public section

noncomputable section

namespace Cert.Proof.Ideal

open Cert.KernelIdeal Cert.KernelIdeal.Gen
open Idealize.ShloMosaic Idealize.ShloMosaic.TcCoe
open Idealize.ShloMosaic.Pipeline (Dat)

variable (V : Dev nD → Valuation τ sig (Elt Ideal)) (c : Dev nD)

/-- Which block a point reads of the image, of the histogram, and which it writes. -/
theorem index1 : ∀ t : Fin cfg1.N, t.val < 256
    ∧ win1_0.index t (0 : Fin 3) = t.val / 64 ∧ win1_0.index t (1 : Fin 3) = t.val % 64 ∧ win1_0.index t (2 : Fin 3) = 0
    ∧ win1_1.index t (0 : Fin 3) = t.val / 64 ∧ win1_1.index t (1 : Fin 3) = 0 ∧ win1_1.index t (2 : Fin 3) = 0
    ∧ win1_2.index t (0 : Fin 3) = t.val / 64 ∧ win1_2.index t (1 : Fin 3) = t.val % 64 ∧ win1_2.index t (2 : Fin 3) = 0 :=
  (by decide +kernel : ∀ t : Fin grid1.N, _)

/-- Every block of the result is some point's, which writes it back. -/
theorem onto1 : ∀ (b : Fin 4) (k : Fin 64), ∃ t : Fin cfg1.N, (cfg1.win 2).flush t = true ∧ t.val / 64 = b.val ∧ t.val % 64 = k.val :=
  (by decide +kernel : ∀ (b : Fin 4) (k : Fin 64), ∃ t : Fin grid1.N, win1_2.flush t = true ∧ t.val / 64 = b.val ∧ t.val % 64 = k.val)

theorem pixels_apply (px : ℕ → ℕ → ℝ) (h : Holds V c px) (t : Fin cfg1.N) (r : Fin 32) (l : Fin 128) :
    block1 V c 0 t (ix3 0 r l) = ((px (t.val / 64) (128 * (32 * (t.val % 64) + r.val) + l.val) : ℝ) : EReal) := by
  obtain ⟨ht, e0, e1, e2, -⟩ := index1 t
  have hi : ((cfg1.win 0).blk t).view.emb (ix3 (0 : Fin 1) r l)
      = ix3 (⟨t.val / 64, by omega⟩ : Fin 4) (⟨32 * (t.val % 64) + r.val, by omega⟩ : Fin 2048) l := by
    funext a
    apply Fin.ext
    match a with
    | ⟨0, _⟩ => show win1_0.index t (0 : Fin 3) * 1 + 1 * 0 = t.val / 64; omega
    | ⟨1, _⟩ => show win1_0.index t (1 : Fin 3) * 32 + 1 * r.val = 32 * (t.val % 64) + r.val; omega
    | ⟨2, _⟩ => show win1_0.index t (2 : Fin 3) * 128 + 1 * l.val = l.val; omega
  show V c main_v0 (((cfg1.win 0).blk t).view.emb (ix3 (0 : Fin 1) r l)) = _
  rw [hi, h]

theorem histBlock_apply (px : ℕ → ℕ → ℝ) (h : V c main_v1 = histArray px) (t : Fin cfg1.N) (j : Fin 256) (l : Fin 128) :
    block1 V c 1 t (ix3 0 j l) = ((laneSum px (t.val / 64) 2048 j.val l.val : ℝ) : EReal) := by
  obtain ⟨ht, -, -, -, e0, e1, e2, -⟩ := index1 t
  have hi : ((cfg1.win 1).blk t).view.emb (ix3 (0 : Fin 1) j l) = ix3 (⟨t.val / 64, by omega⟩ : Fin 4) j l := by
    funext a
    apply Fin.ext
    match a with
    | ⟨0, _⟩ => show win1_1.index t (0 : Fin 3) * 1 + 1 * 0 = t.val / 64; omega
    | ⟨1, _⟩ => show win1_1.index t (1 : Fin 3) * 256 + 1 * j.val = j.val; omega
    | ⟨2, _⟩ => show win1_1.index t (2 : Fin 3) * 128 + 1 * l.val = l.val; omega
  show V c main_v1 (((cfg1.win 1).blk t).view.emb (ix3 (0 : Fin 1) j l)) = _
  rw [hi, h]
  rfl

/-- The histogram block whose tables are in place after point `n` is the point's image's. -/
theorem usedHist_apply (px : ℕ → ℕ → ℝ) (h : V c main_v1 = histArray px) (j : Fin 256) (l : Fin 128) (n : ℕ) (hn : n < cfg1.N) :
    usedHist V c n hn (ix3 0 j l) = ((laneSum px (n / 64) 2048 j.val l.val : ℝ) : EReal) := by
  induction n with
  | zero => exact histBlock_apply V c px h ⟨0, hn⟩ j l
  | succ n ih =>
    by_cases hm : (n + 1) % 64 = 0
    · rw [usedHist_first V c ⟨n + 1, hn⟩ hm]
      exact histBlock_apply V c px h ⟨n + 1, hn⟩ j l
    · rw [usedHist_later V c ⟨n + 1, hn⟩ hm]
      show usedHist V c n _ (ix3 0 j l) = _
      rw [ih, show (n + 1) / 64 = n / 64 by omega]

/-- The lanes of a histogram block sum to the image's histogram. -/
theorem binSum_laneSum (px : ℕ → ℕ → ℝ) (b : ℕ) : binSum (laneSum px b 2048) = histogram px b := by
  funext j
  rw [histogram, show (262144 : ℕ) = 128 * 2048 from rfl, sum_rows, Finset.sum_comm]
  rfl

theorem laneSum_nonneg (px : ℕ → ℕ → ℝ) (b n j l : ℕ) : 0 ≤ laneSum px b n j l :=
  Finset.sum_nonneg fun _ _ => (bump_pos _ _).le

theorem knotAt_eq (n : ℕ) : knotAt (n / 128) (n % 128) = (n : ℝ) * (255 / 2048) := by
  rw [knotAt, Nat.div_add_mod]

/-- What a point leaves at a pixel. -/
theorem eqPoint_apply (px : ℕ → ℕ → ℝ) (hx : Holds V c px) (h : V c main_v1 = histArray px)
    (h01 : ∀ b q, 0 ≤ px b q ∧ px b q < 1) (t : Fin cfg1.N) (r : Fin 32) (l : Fin 128) :
    (eqDat V c).after 2 t (ix3 (0 : Fin 1) r l)
      = ((equalised (histogram px (t.val / 64)) (px (t.val / 64) (128 * (32 * (t.val % 64) + r.val) + l.val)) : ℝ) : EReal) := by
  obtain ⟨h0, h1⟩ := h01 (t.val / 64) (128 * (32 * (t.val % 64) + r.val) + l.val)
  have hn := knotBelow_lt h0 h1
  have hB := fun j l => usedHist_apply V c px h j l t.val t.isLt
  have hB0 := fun j l => laneSum_nonneg px (t.val / 64) 2048 j l
  rw [eqDat_after2, eqBlock_apply _ _ _ r l _ _ hn (knotBelow_floor h0) (pixels_apply V c px hx t r l),
    tableF_value _ _ hB hB0, tableD_value _ _ hB hB0 _ (by simp only; omega), binSum_laneSum]
  simp only [knotAt_eq, Nat.div_add_mod]
  rw [← EReal.coe_mul, ← EReal.coe_add, equalised, atKnot, atKnot]

/-- The equalised image, as a function of its index. -/
def eqArray (px : ℕ → ℕ → ℝ) : S4x2048x128.Idx → EReal := fun i =>
  ((equalised (histogram px (i 0).val) (px (i 0).val (128 * (i 1).val + (i 2).val)) : ℝ) : EReal)

theorem eq_flushed (px : ℕ → ℕ → ℝ) (hx : Holds V c px) (h : V c main_v1 = histArray px)
    (h01 : ∀ b q, 0 ≤ px b q ∧ px b q < 1) (t : Fin cfg1.N) :
    (eqDat V c).flushed 2 t = ((cfg1.win 2).blk t).view.read (Elt Ideal) (eqArray px) := by
  obtain ⟨-, -, -, -, -, -, -, e0, e1, e2⟩ := index1 t
  show (cfg1.win 2).cut (grid1.coords t) ((eqDat V c).after 2 t) = _
  funext y
  have hz : (y 0).val < 1 := (y 0).isLt
  have h0 : (((cfg1.win 2).blk t).view.emb y 0).val = t.val / 64 := by
    have h0 : (((cfg1.win 2).blk t).view.emb y 0).val = win1_2.index t (0 : Fin 3) * 1 + 1 * (y 0).val := rfl
    omega
  have h1 : (((cfg1.win 2).blk t).view.emb y 1).val = 32 * (t.val % 64) + (y 1).val := by
    have h1 : (((cfg1.win 2).blk t).view.emb y 1).val = win1_2.index t (1 : Fin 3) * 32 + 1 * (y 1).val := rfl
    omega
  have h2 : (((cfg1.win 2).blk t).view.emb y 2).val = (y 2).val := by
    have h2 : (((cfg1.win 2).blk t).view.emb y 2).val = win1_2.index t (2 : Fin 3) * 128 + 1 * (y 2).val := rfl
    omega
  have hy : (cfg1.win 2).xinj (grid1.coords t) y = ix3 (0 : Fin 1) (⟨(y 1).val, (y 1).isLt⟩ : Fin 32) (⟨(y 2).val, (y 2).isLt⟩ : Fin 128) := by
    funext a
    apply Fin.ext
    match a with
    | ⟨0, _⟩ => show (y 0).val = 0; omega
    | ⟨1, _⟩ => rfl
    | ⟨2, _⟩ => rfl
  show (eqDat V c).after 2 t ((cfg1.win 2).xinj (grid1.coords t) y) = eqArray px (((cfg1.win 2).blk t).view.emb y)
  rw [hy, eqPoint_apply V c px hx h h01, eqArray, h0, h1, h2]

/-- The equalising call's result. -/
theorem eq_final (px : ℕ → ℕ → ℝ) (hx : Holds V c px) (h : V c main_v1 = histArray px)
    (h01 : ∀ b q, 0 ≤ px b q ∧ px b q < 1) : (eqDat V c).arrAt 2 cfg1.N = eqArray px :=
  (eqDat V c).arrAt_eq_of_cover 2 _ (fun t _ => eq_flushed V c px hx h h01 t) (fun i => by
    have h1 : (i 1).val < 2048 := (i 1).isLt
    have h2 : (i 2).val < 128 := (i 2).isLt
    obtain ⟨t, hf, ht, hk⟩ := onto1 ⟨(i 0).val, (i 0).isLt⟩ ⟨(i 1).val / 32, by omega⟩
    obtain ⟨-, -, -, -, -, -, -, e0, e1, e2⟩ := index1 t
    refine ⟨t, hf, ?_⟩
    show i ∈ ((View.whole main_v2).slice (win1_2.rect t)).set
    rw [View.set_slice_whole, Rect.mem_set_unit]
    simp only at ht hk
    intro a
    match a with
    | ⟨0, _⟩ => show win1_2.index t (0 : Fin 3) * 1 ≤ (i 0).val ∧ (i 0).val < win1_2.index t (0 : Fin 3) * 1 + 1; omega
    | ⟨1, _⟩ => show win1_2.index t (1 : Fin 3) * 32 ≤ (i 1).val ∧ (i 1).val < win1_2.index t (1 : Fin 3) * 32 + 32; omega
    | ⟨2, _⟩ => show win1_2.index t (2 : Fin 3) * 128 ≤ (i 2).val ∧ (i 2).val < win1_2.index t (2 : Fin 3) * 128 + 128; omega)

end Cert.Proof.Ideal

end
-- ==== Proof.Image.lean ====
/-
  The image both programs take: real numbers of the unit interval, read pixel by pixel; and the equalised image both
  programs are shown to return.
-/
module

public import proofs.«01_k».proof.Proof.Equalised

@[expose] public section

noncomputable section

namespace Cert.Proof

open Idealize.ShloMosaic

/-- Pixel `q` of image `b` as a real number, counted row by row. -/
def pixel (x : (⟨4, ![4, 1, 512, 512]⟩ : Shape).Idx → EReal) (b q : ℕ) : ℝ :=
  (x (ix4 (⟨b % 4, Nat.mod_lt _ (by norm_num)⟩ : Fin 4) (0 : Fin 1) (⟨q / 512 % 512, Nat.mod_lt _ (by norm_num)⟩ : Fin 512)
    (⟨q % 512, Nat.mod_lt _ (by norm_num)⟩ : Fin 512))).toReal

/-- An image every pixel of which is a real number of the unit interval, one excluded. -/
def UnitImage (x : (⟨4, ![4, 1, 512, 512]⟩ : Shape).Idx → EReal) : Prop := ∀ i, 0 ≤ x i ∧ x i < 1

theorem UnitImage.pixel_mem {x : (⟨4, ![4, 1, 512, 512]⟩ : Shape).Idx → EReal} (h : UnitImage x) (b q : ℕ) :
    0 ≤ pixel x b q ∧ pixel x b q < 1 := by
  obtain ⟨h0, h1⟩ := h (ix4 (⟨b % 4, Nat.mod_lt _ (by norm_num)⟩ : Fin 4) (0 : Fin 1) (⟨q / 512 % 512, Nat.mod_lt _ (by norm_num)⟩ : Fin 512)
    (⟨q % 512, Nat.mod_lt _ (by norm_num)⟩ : Fin 512))
  refine ⟨EReal.toReal_nonneg h0, ?_⟩
  rw [← EReal.coe_toReal (ne_of_lt (h1.trans (EReal.coe_lt_top 1))) (ne_of_gt (lt_of_lt_of_le EReal.bot_lt_zero h0))] at h1
  exact EReal.coe_lt_coe_iff.mp h1

/-- The image at an index is its pixel, counted row by row. -/
theorem UnitImage.apply {x : (⟨4, ![4, 1, 512, 512]⟩ : Shape).Idx → EReal} (h : UnitImage x) (b : Fin 4) (u : Fin 1)
    (r s : Fin 512) (q : ℕ) (hq : q = 512 * r.val + s.val) : x (ix4 b u r s) = ((pixel x b.val q : ℝ) : EReal) := by
  obtain ⟨h0, h1⟩ := h (ix4 b u r s)
  have hi : (ix4 (⟨b.val % 4, Nat.mod_lt _ (by norm_num)⟩ : Fin 4) (0 : Fin 1) (⟨q / 512 % 512, Nat.mod_lt _ (by norm_num)⟩ : Fin 512)
      (⟨q % 512, Nat.mod_lt _ (by norm_num)⟩ : Fin 512)) = ix4 b u r s := by
    rw [Subsingleton.elim u 0]
    congr 1 <;> apply Fin.ext <;> simp only <;> omega
  rw [pixel, hi, EReal.coe_toReal (ne_of_lt (h1.trans (EReal.coe_lt_top 1))) (ne_of_gt (lt_of_lt_of_le EReal.bot_lt_zero h0))]

/-- The equalised image. -/
def equalisedImage (x : (⟨4, ![4, 1, 512, 512]⟩ : Shape).Idx → EReal) : (⟨4, ![4, 1, 512, 512]⟩ : Shape).Idx → EReal := fun i =>
  ((equalised (histogram (pixel x) (i 0).val) (pixel x (i 0).val (512 * (i 2).val + (i 3).val)) : ℝ) : EReal)

/-- An image's index by its coordinates. -/
theorem image_index (i : (⟨4, ![4, 1, 512, 512]⟩ : Shape).Idx) :
    ∃ (b : Fin 4) (r s : Fin 512), i = ix4 b (0 : Fin 1) r s := by
  refine ⟨⟨(i 0).val, (i 0).isLt⟩, ⟨(i 2).val, (i 2).isLt⟩, ⟨(i 3).val, (i 3).isLt⟩, ?_⟩
  funext a
  apply Fin.ext
  match a with
  | ⟨0, _⟩ => rfl
  | ⟨1, _⟩ => show (i 1).val = 0; have : (i 1).val < 1 := (i 1).isLt; omega
  | ⟨2, _⟩ => rfl
  | ⟨3, _⟩ => rfl

end Cert.Proof

end
-- ==== Proof.KernelValue.lean ====
/-
  What v03 returns on an image of the unit interval: every pixel equalised by its image's histogram.
-/
module

public import proofs.«01_k».proof.Proof.Launch
public import proofs.«01_k».proof.Proof.EqArray
public import proofs.«01_k».proof.Proof.Image

@[expose] public section

noncomputable section

namespace Cert.Proof

open Idealize.ShloMosaic

namespace Ideal

open Cert.KernelIdeal Cert.KernelIdeal.Gen
open Idealize.ShloMosaic.TcCoe

variable (m : (ℓ : Loc nD τ sig) → Buf (Elt Ideal) ℓ) (c : Dev nD)

theorem atHist_v0 : atHist m c main_v0 = shapeCast S4x2048x128 (m ((c : Thread nD τ).loc main_arg0)) shapeCasts_S4x1x512x512_S4x2048x128 :=
  rfl

theorem atEnd_v3 : atEnd m c main_v3 = shapeCast S4x1x512x512 (atTail m c main_v2) shapeCasts_S4x2048x128_S4x1x512x512 :=
  rfl

theorem reshape_in (x : S4x1x512x512.Idx → EReal) (b : Fin 4) (r : Fin 2048) (l : Fin 128) :
    shapeCast S4x2048x128 x shapeCasts_S4x1x512x512_S4x2048x128 (ix3 b r l)
      = x (ix4 b (0 : Fin 1) (⟨r.val / 4, by omega⟩ : Fin 512) (⟨r.val % 4 * 128 + l.val, by omega⟩ : Fin 512)) := by
  pointwise []

theorem atHist_holds (h : UnitImage (m ((c : Thread nD τ).loc main_arg0))) :
    Holds (atHist m) c (pixel (m ((c : Thread nD τ).loc main_arg0))) := fun b r l => by
  rw [atHist_v0]
  exact (reshape_in _ b r l).trans (h.apply _ _ _ _ _ (by simp only; omega))

/-- v03's result. -/
theorem atEnd_value (h : UnitImage (m ((c : Thread nD τ).loc main_arg0))) :
    atEnd m c main_v3 = equalisedImage (m ((c : Thread nD τ).loc main_arg0)) := by
  have hx := atHist_holds m c h
  have h1 : atEq m c main_v1 = histArray (pixel (m ((c : Thread nD τ).loc main_arg0))) :=
    (atEq_v1 m c).trans (hist_final (atHist m) c _ hx)
  have hx' : Holds (atEq m) c (pixel (m ((c : Thread nD τ).loc main_arg0))) := fun b r l => by
    rw [atEq_v0]
    exact hx b r l
  have h2 := (atTail_v2 m c).trans (eq_final (atEq m) c _ hx' h1 h.pixel_mem)
  rw [atEnd_v3, h2]
  funext i
  obtain ⟨b, r, s, rfl⟩ := image_index i
  pointwise [eqArray, equalisedImage]
  rw [show 128 * (r.val * 4 + s.val / 128) + s.val % 128 = 512 * r.val + s.val by omega]

end Ideal

end Cert.Proof

end
-- ==== Proof.RefStages.lean ====
/-
  The interpolated reference's value, cut into the steps its text has: the bins, the weights of intensities on the bins,
  the histogram, its normalisation, its running sum, the levels, and the look-up. The result is these steps composed
  (`result_eq`). reference.py has the same steps up to the look-up, and no others.
-/
module

public import proofs.«01_k».proof.Proof.Gen.InterpolatedIdeal.Run

@[expose] public section

noncomputable section

namespace Cert.Proof.Ref

open Cert.InterpolatedIdeal Cert.InterpolatedIdeal.Gen Cert.InterpolatedIdeal.Value
open Idealize.ShloMosaic Idealize.ShloMosaic.TcCoe

variable {F : FTy → Type} [FloatOps F]

/-- A number of every pixel, for each of the four images. -/
abbrev Pixels (F : FTy → Type) := FVec F S4x262144x1 .f32
/-- A number of every bin, for each of the four images. -/
abbrev Bins (F : FTy → Type) := FVec F S4x256 .f32

/-- The bins, evenly spaced from zero to one; the last is written separately. -/
def bins : FVec F S256 .f32 :=
  fn_main_v0 (F := F)
    (addf
      (mulf (broadcastInDim S255 ![0] bcast_S1_S255_0 (shapeCast _ (id (constant S_ .f32 0x00000000#32)) shapeCasts_S_S1))
        (subf (broadcastInDim S255 ![] bcast_S_S255 (constant S_ .f32 0x3F800000#32))
          (Host.divf (sitofp .f32 (iotaInDim S255 32 0)) (broadcastInDim S255 ![] bcast_S_S255 (constant S_ .f32 0x437F0000#32)))))
      (mulf (broadcastInDim S255 ![0] bcast_S1_S255_0 (shapeCast _ (id (constant S_ .f32 0x3F800000#32)) shapeCasts_S_S1))
        (Host.divf (sitofp .f32 (iotaInDim S255 32 0)) (broadcastInDim S255 ![] bcast_S_S255 (constant S_ .f32 0x437F0000#32)))))
    (broadcastInDim S1 ![] bcast_S_S1 (id (constant S_ .f32 0x3F800000#32)))

/-- Each intensity less each bin. -/
def offsets (v : Pixels F) : FVec F S4x262144x256 .f32 :=
  subf (broadcastInDim S4x262144x256 ![0, 1, 2] bcast_S4x262144x1_S4x262144x256_0_1_2 v)
    (broadcastInDim S4x262144x256 ![0, 1, 2] bcast_S1x1x256_S4x262144x256_0_1_2
      (broadcastInDim S1x1x256 ![2] bcast_S256_S1x1x256_2 bins))

/-- The weight of each intensity on each bin. -/
def weights (v : Pixels F) : FVec F S4x262144x256 .f32 :=
  Host.exp (mulf (Host.negf (mulf (offsets v) (offsets v)))
    (broadcastInDim S4x262144x256 ![] bcast_S_S4x262144x256 (constant S_ .f32 0x459C4000#32)))

/-- The weights summed over the pixels. -/
def hist (v : Pixels F) : Bins F :=
  Host.reduceAdd (weights v) (constant S_ .f32 0x00000000#32) reducesTo_S4x262144x256_S4x256_d1 h_S_

/-- The histogram over its mass. -/
def share (h : Bins F) : Bins F :=
  Host.divf h (broadcastInDim S4x256 ![0, 1] bcast_S4x1_S4x256_0_1
    (addf (broadcastInDim S4x1 ![0] bcast_S4_S4x1_0
        (Host.reduceAdd h (constant S_ .f32 0x00000000#32) reducesTo_S4x256_S4_d1 h_S_))
      (broadcastInDim S4x1 ![] bcast_S_S4x1 (constant S_ .f32 0x2EDBE6FF#32))))

/-- The running sum over the bins. -/
def running (h : Bins F) : Bins F :=
  Host.reduceWindowAdd ![1, 256] ![1, 1] ![0, 255] ![0, 0] h (broadcastInDim S_ ![] bcast_S_S_ (constant S_ .f32 0x00000000#32))
    reduceWindows_S4x256_S4x256_w1s1p0_0_w256s1p255_0 h_S_

/-- The distribution's first bin. -/
def firstBin (d : Bins F) : FVec F S4x1 .f32 := extractStridedSlice S4x1 ![0, 0] d slices_S4x256_S4x1_0_0

/-- The distribution carried to start at zero and end at one. -/
def levels (d : Bins F) : Bins F :=
  Host.divf (subf d (broadcastInDim S4x256 ![0, 1] bcast_S4x1_S4x256_0_1 (firstBin d)))
    (broadcastInDim S4x256 ![0, 1] bcast_S4x1_S4x256_0_1
      (addf (subf (broadcastInDim S4x1 ![] bcast_S_S4x1 (constant S_ .f32 0x3F800000#32)) (firstBin d))
        (broadcastInDim S4x1 ![] bcast_S_S4x1 (constant S_ .f32 0x2EDBE6FF#32))))

/-- The weights of each intensity over their sum. -/
def proportions (v : Pixels F) : FVec F S4x262144x256 .f32 :=
  Host.divf (weights v) (broadcastInDim S4x262144x256 ![0, 1, 2] bcast_S4x262144x1_S4x262144x256_0_1_2
    (addf (broadcastInDim S4x262144x1 ![0, 1] bcast_S4x262144_S4x262144x1_0_1
        (Host.reduceAdd (weights v) (constant S_ .f32 0x00000000#32) reducesTo_S4x262144x256_S4x262144_d2 h_S_))
      (broadcastInDim S4x262144x1 ![] bcast_S_S4x262144x1 (constant S_ .f32 0x2EDBE6FF#32))))

/-- Each intensity looked up among the levels. -/
def lookedUp (v : Pixels F) (l : Bins F) : FVec F S4x262144 .f32 :=
  Host.reduceAdd
    (mulf (proportions v) (broadcastInDim S4x262144x256 ![0, 1, 2] bcast_S4x1x256_S4x262144x256_0_1_2
      (broadcastInDim S4x1x256 ![0, 2] bcast_S4x256_S4x1x256_0_2 l)))
    (constant S_ .f32 0x00000000#32) reducesTo_S4x262144x256_S4x262144_d2 h_S_

/-- Each intensity in knots, -/
def inKnots (v : Pixels F) : Pixels F :=
  mulf v (broadcastInDim S4x262144x1 ![] bcast_S_S4x262144x1 (constant S_ .f32 0x45000000#32))
/-- the knot below it, -/
def below (v : Pixels F) : Pixels F := Host.floor (inKnots v)
/-- a knot as an intensity, -/
def ofKnot (k : Pixels F) : Pixels F :=
  Host.divf k (broadcastInDim S4x262144x1 ![] bcast_S_S4x262144x1 (constant S_ .f32 0x45000000#32))
/-- and the knot after one. -/
def next (k : Pixels F) : Pixels F :=
  addf k (broadcastInDim S4x262144x1 ![] bcast_S_S4x262144x1 (constant S_ .f32 0x3F800000#32))

/-- The straight line between the look-ups at the two knots. -/
def line (v : Pixels F) (l : Bins F) : FVec F S4x262144 .f32 :=
  addf (lookedUp (ofKnot (below v)) l)
    (mulf (subf (lookedUp (ofKnot (next (below v))) l) (lookedUp (ofKnot (below v)) l))
      (shapeCast _ (subf (inKnots v) (below v)) shapeCasts_S4x262144x1_S4x262144))

/-- The whole interpolated reference. -/
def result (x : FVec F S4x1x512x512 .f32) : FVec F S4x1x512x512 .f32 :=
  let v : Pixels F := shapeCast _ x shapeCasts_S4x1x512x512_S4x262144x1
  shapeCast _ (line v (levels (running (share (hist v))))) shapeCasts_S4x262144_S4x1x512x512

theorem result_eq (m : (ℓ : Loc nD τ sig) → Buf (Elt F) ℓ) (c : Dev nD) :
    res_main_v82 m c = result (m ((c.tc : Thread nD τ).loc main_arg0)) := rfl

end Cert.Proof.Ref

end
-- ==== Proof.RefValue.lean ====
/-
  The interpolated reference's result on an image of the unit interval, as a real number: every pixel equalised by its image's
  histogram. Each step of the reference is read at an index, in order.
-/
module

public import proofs.«01_k».proof.Proof.RefStages
public import proofs.«01_k».proof.Proof.Image

@[expose] public section

noncomputable section

namespace Cert.Proof.Ref

open Cert.InterpolatedIdeal Cert.InterpolatedIdeal.Gen Cert.InterpolatedIdeal.Value
open Idealize.ShloMosaic Idealize.ShloMosaic.TcCoe

/-! ## The bins and the weights -/

theorem bins_apply (j : Fin 256) : bins (F := Ideal) (ix1 j) = ((j.val / 255 : ℝ) : EReal) := by
  pointwise [bins, fn_main_v0]
  have h0 : id (constant (F := Ideal) S_ FTy.f32 0#32) ix0 = ((0 : ℝ) : EReal) := by
    pointwise [id]
    rfl
  have h1 : id (constant (F := Ideal) S_ FTy.f32 1065353216#32) ix0 = ((1 : ℝ) : EReal) := by
    pointwise [id]
    rfl
  rw [h0, h1, word_255, sitofp_ofNat _ (by omega), div_real _ (by norm_num), ← EReal.coe_one, ← EReal.coe_sub, ← EReal.coe_mul,
    ← EReal.coe_mul, ← EReal.coe_add]
  split
  · congr 1
    ring
  · have hj : j.val = 255 := by omega
    rw [hj]
    norm_num

theorem weights_apply (v : Pixels Ideal) (b : Fin 4) (q : Fin 262144) (j : Fin 256) (p : ℝ)
    (hv : v (ix3 b q (0 : Fin 1)) = (p : EReal)) : weights v (ix3 b q j) = ((bump (p * 255) j.val : ℝ) : EReal) := by
  have hb := bins_apply j
  pointwise [weights, offsets]
  rw [hv, hb, word_5000, ← EReal.coe_sub, ← EReal.coe_mul, ← EReal.coe_neg, ← EReal.coe_mul, Ideal.exp_coe, bump]
  congr 2
  ring

/-! ## The histogram and its levels -/

theorem hist_apply (v : Pixels Ideal) (b : Fin 4) (j : Fin 256) (p : ℕ → ℝ)
    (hv : ∀ q : Fin 262144, v (ix3 b q (0 : Fin 1)) = (p q.val : EReal)) :
    hist v (ix2 b j) = ((∑ q ∈ Finset.range 262144, bump (p q * 255) j.val : ℝ) : EReal) := by
  pointwise [hist]
  rw [Finset.sum_congr rfl fun q _ => weights_apply v b q j _ (hv q), ← coe_sum_fin]

theorem share_apply (h : Bins Ideal) (b : Fin 4) (j : Fin 256) (H : ℕ → ℝ) (h0 : ∀ k, 0 ≤ H k)
    (hh : ∀ j : Fin 256, h (ix2 b j) = (H j.val : EReal)) :
    share h (ix2 b j) = ((H j.val / (∑ k ∈ Finset.range 256, H k + eps) : ℝ) : EReal) := by
  pointwise [share]
  rw [Finset.sum_congr rfl fun k _ => hh k, coe_sum_fin, hh, word_eps, ← EReal.coe_add, div_real _ (mass_pos h0).ne']

/-- Adding real numbers one after the other. -/
theorem foldl_add_coe (N : ℕ) (f : Fin N → EReal) (g : ℕ → ℝ) (hf : ∀ n : Fin N, f n = (g n.val : EReal)) :
    (List.finRange N).foldl (fun r n => r + f n) 0 = ((∑ n ∈ Finset.range N, g n : ℝ) : EReal) := by
  have key : ∀ (l : List (Fin N)) (a : EReal), l.foldl (fun r n => r + f n) a = a + (l.map f).sum := by
    intro l
    induction l with
    | nil => simp
    | cons n l ih =>
      intro a
      rw [List.foldl_cons, ih, List.map_cons, List.sum_cons, add_assoc]
  rw [key, zero_add, ← Fin.sum_univ_def, Finset.sum_congr rfl fun n _ => hf n, coe_sum_fin]

/-- A window of 256 numbers ending at the `j`th, what lies before the first counting nothing. -/
theorem window_sum (H : ℕ → ℝ) (j : ℕ) (hj : j < 256) :
    ∑ n ∈ Finset.range 256, (if 255 ≤ j + n then H (j + n - 255) else 0) = ∑ k ∈ Finset.range (j + 1), H k := by
  rw [show (256 : ℕ) = (255 - j) + (j + 1) by omega, Finset.sum_range_add]
  rw [Finset.sum_eq_zero (fun n hn => if_neg (by have := Finset.mem_range.mp hn; omega)), zero_add]
  refine Finset.sum_congr rfl fun n hn => ?_
  rw [if_pos (by omega), show j + (255 - j + n) - 255 = n by omega]

/-- The window's positions, row by row: its one row is as long as the bins are many. -/
theorem window_pos (n : Fin (⟨2, ![1, 256]⟩ : Shape).numel) :
    ((⟨2, ![1, 256]⟩ : Shape).rowMajor.symm n 0).val = 0 ∧ ((⟨2, ![1, 256]⟩ : Shape).rowMajor.symm n 1).val = n.val := by
  have h := Shape.rowMajor_val_two ((⟨2, ![1, 256]⟩ : Shape).rowMajor.symm n)
  rw [Equiv.apply_symm_apply] at h
  have h0 : ((⟨2, ![1, 256]⟩ : Shape).rowMajor.symm n 0).val < 1 := ((⟨2, ![1, 256]⟩ : Shape).rowMajor.symm n 0).isLt
  have h0' : ((⟨2, ![1, 256]⟩ : Shape).rowMajor.symm n 0).val = 0 := by omega
  rw [h0', Nat.zero_mul, Nat.zero_add] at h
  exact ⟨h0', h.symm⟩

theorem running_apply (h : Bins Ideal) (b : Fin 4) (j : Fin 256) (H : ℕ → ℝ)
    (hh : ∀ j : Fin 256, h (ix2 b j) = (H j.val : EReal)) :
    running h (ix2 b j) = ((∑ k ∈ Finset.range (j.val + 1), H k : ℝ) : EReal) := by
  have hj := j.isLt
  have hz : (broadcastInDim S_ ![] bcast_S_S_ (constant (F := Ideal) S_ .f32 0x00000000#32)) (Shape.Idx.first h_S_) = (0 : EReal) := by
    pointwise []
  rw [← window_sum H j.val hj]
  show Ideal.hostReduceWindowAdd ![1, 256] ![1, 1] ![0, 255] ![0, 0] reduceWindows_S4x256_S4x256_w1s1p0_0_w256s1p255_0 h
    ((broadcastInDim S_ ![] bcast_S_S_ (constant (F := Ideal) S_ .f32 0x00000000#32)) (Shape.Idx.first h_S_)) (ix2 b j) = _
  unfold Ideal.hostReduceWindowAdd Host.reduceWindow
  rw [hz]
  refine foldl_add_coe _ _ (fun n => if 255 ≤ j.val + n then H (j.val + n - 255) else 0) fun n => ?_
  obtain ⟨w0, w1⟩ := window_pos n
  have hn : n.val < 256 := n.isLt
  have p0 : (ix2 b j 0).val * 1 + ((⟨2, ![1, 256]⟩ : Shape).rowMajor.symm n 0).val = b.val := by
    rw [w0]
    show b.val * 1 + 0 = b.val
    omega
  have p1 : (ix2 b j 1).val * 1 + ((⟨2, ![1, 256]⟩ : Shape).rowMajor.symm n 1).val = j.val + n.val := by
    rw [w1]
    show j.val * 1 + n.val = _
    omega
  dsimp only
  split
  · next hin =>
    have h1 : 255 ≤ (ix2 b j 1).val * 1 + ((⟨2, ![1, 256]⟩ : Shape).rowMajor.symm n 1).val := (hin 1).1
    rw [p1] at h1
    rw [if_pos h1]
    refine (congrArg h (funext fun a => Fin.ext ?_)).trans (hh ⟨j.val + n.val - 255, by omega⟩)
    match a with
    | ⟨0, _⟩ =>
      show (ix2 b j 0).val * 1 + ((⟨2, ![1, 256]⟩ : Shape).rowMajor.symm n 0).val - 0 = b.val
      rw [p0]
      rfl
    | ⟨1, _⟩ =>
      show (ix2 b j 1).val * 1 + ((⟨2, ![1, 256]⟩ : Shape).rowMajor.symm n 1).val - 255 = j.val + n.val - 255
      rw [p1]
  · next hin =>
    rw [if_neg fun hle => hin fun a => by
      match a with
      | ⟨0, _⟩ =>
        show 0 ≤ (ix2 b j 0).val * 1 + ((⟨2, ![1, 256]⟩ : Shape).rowMajor.symm n 0).val
          ∧ (ix2 b j 0).val * 1 + ((⟨2, ![1, 256]⟩ : Shape).rowMajor.symm n 0).val - 0 < 4
        rw [p0]
        have := b.isLt
        omega
      | ⟨1, _⟩ =>
        show 255 ≤ (ix2 b j 1).val * 1 + ((⟨2, ![1, 256]⟩ : Shape).rowMajor.symm n 1).val
          ∧ (ix2 b j 1).val * 1 + ((⟨2, ![1, 256]⟩ : Shape).rowMajor.symm n 1).val - 255 < 256
        rw [p1]
        omega]
    rfl

theorem levels_apply (h : Bins Ideal) (b : Fin 4) (j : Fin 256) (H : ℕ → ℝ) (h0 : 0 < 1 - H 0 + eps)
    (hh : ∀ j : Fin 256, h (ix2 b j) = (H j.val : EReal)) :
    levels h (ix2 b j) = (((H j.val - H 0) / (1 - H 0 + eps) : ℝ) : EReal) := by
  pointwise [levels, firstBin]
  rw [hh, hh, word_eps, ← EReal.coe_one, ← EReal.coe_sub, ← EReal.coe_sub, ← EReal.coe_add]
  exact div_real _ h0.ne'

/-- From a histogram to its levels. -/
theorem levels_of (h : Bins Ideal) (b : Fin 4) (j : Fin 256) (H : ℕ → ℝ) (h0 : ∀ k, 0 ≤ H k)
    (hh : ∀ j : Fin 256, h (ix2 b j) = (H j.val : EReal)) :
    levels (running (share h)) (ix2 b j) = ((level H j.val : ℝ) : EReal) := by
  refine levels_apply _ b j (cum H) (span_pos h0) fun k => ?_
  rw [running_apply _ b k (fun j => H j / (∑ k ∈ Finset.range 256, H k + eps)) fun k => share_apply h b k H h0 hh, cum, Finset.sum_div]

/-! ## The look-up -/

theorem lookedUp_apply (v : Pixels Ideal) (l : Bins Ideal) (b : Fin 4) (q : Fin 262144) (H : ℕ → ℝ) (p : ℝ)
    (hl : ∀ j : Fin 256, l (ix2 b j) = (level H j.val : EReal)) (hv : v (ix3 b q (0 : Fin 1)) = (p : EReal)) :
    lookedUp v l (ix2 b q) = ((lookup H (p * 255) : ℝ) : EReal) := by
  have hw := fun j => weights_apply v b q j p hv
  pointwise [lookedUp, proportions]
  have hs : ∑ x, weights v (ix3 b q x) + Ideal.ofBits FTy.f32 786163455#32
      = ((∑ j ∈ Finset.range 256, bump (p * 255) j + eps : ℝ) : EReal) := by
    rw [Finset.sum_congr rfl fun j _ => hw j, coe_sum_fin (fun j => bump (p * 255) j), word_eps, ← EReal.coe_add]
  rw [hs, Finset.sum_congr rfl fun j _ => by rw [hw j, hl j, div_real _ (weights_pos _).ne', ← EReal.coe_mul],
    coe_sum_fin (fun j => bump (p * 255) j / (∑ j ∈ Finset.range 256, bump (p * 255) j + eps) * level H j), lookup, Finset.sum_div]
  congr 1
  exact Finset.sum_congr rfl fun j _ => by ring

/-- The look-up at a knot. -/
theorem atKnot_apply (k : Pixels Ideal) (l : Bins Ideal) (b : Fin 4) (q : Fin 262144) (H : ℕ → ℝ) (n : ℕ)
    (hl : ∀ j : Fin 256, l (ix2 b j) = (level H j.val : EReal)) (hk : k (ix3 b q (0 : Fin 1)) = (((n : ℕ) : ℝ) : EReal)) :
    lookedUp (ofKnot k) l (ix2 b q) = ((atKnot H n : ℝ) : EReal) := by
  rw [lookedUp_apply (ofKnot k) l b q H ((n : ℝ) / 2048) hl (by
    pointwise [ofKnot]
    rw [hk, word_2048, div_real _ (by norm_num)]), atKnot]
  congr 2
  ring

theorem inKnots_apply (v : Pixels Ideal) (b : Fin 4) (q : Fin 262144) (p : ℝ) (hv : v (ix3 b q (0 : Fin 1)) = (p : EReal)) :
    inKnots v (ix3 b q (0 : Fin 1)) = ((p * 2048 : ℝ) : EReal) := by
  pointwise [inKnots]
  rw [hv, word_2048, ← EReal.coe_mul]

theorem below_apply (v : Pixels Ideal) (b : Fin 4) (q : Fin 262144) (p : ℝ) (h0 : 0 ≤ p)
    (hv : v (ix3 b q (0 : Fin 1)) = (p : EReal)) : below v (ix3 b q (0 : Fin 1)) = ((knotBelow p : ℝ) : EReal) := by
  have h := inKnots_apply v b q p hv
  pointwise [below]
  rw [h, Ideal.liftRound_coe, knotBelow_floor h0, Int.cast_natCast]

theorem next_apply (k : Pixels Ideal) (b : Fin 4) (q : Fin 262144) (n : ℕ) (hk : k (ix3 b q (0 : Fin 1)) = (((n : ℕ) : ℝ) : EReal)) :
    next k (ix3 b q (0 : Fin 1)) = (((n + 1 : ℕ) : ℝ) : EReal) := by
  pointwise [next]
  rw [hk, Nat.cast_add, Nat.cast_one, EReal.coe_add, EReal.coe_one]

theorem line_apply (v : Pixels Ideal) (l : Bins Ideal) (b : Fin 4) (q : Fin 262144) (H : ℕ → ℝ) (p : ℝ) (h0 : 0 ≤ p)
    (hl : ∀ j : Fin 256, l (ix2 b j) = (level H j.val : EReal)) (hv : v (ix3 b q (0 : Fin 1)) = (p : EReal)) :
    line v l (ix2 b q) = ((equalised H p : ℝ) : EReal) := by
  have hb := below_apply v b q p h0 hv
  have hlo := atKnot_apply (below v) l b q H _ hl hb
  have hhi := atKnot_apply (next (below v)) l b q H _ hl (next_apply _ b q _ hb)
  have hk := inKnots_apply v b q p hv
  pointwise [line]
  rw [hlo, hhi, hk, hb, ← EReal.coe_sub, ← EReal.coe_sub, ← EReal.coe_mul, ← EReal.coe_add, equalised]

/-! ## The result -/

theorem flat_in (x : FVec Ideal S4x1x512x512 .f32) (b : Fin 4) (q : Fin 262144) :
    shapeCast S4x262144x1 x shapeCasts_S4x1x512x512_S4x262144x1 (ix3 b q (0 : Fin 1))
      = x (ix4 b (0 : Fin 1) (⟨q.val / 512, by omega⟩ : Fin 512) (⟨q.val % 512, by omega⟩ : Fin 512)) := by
  pointwise []

theorem flat_out (y : FVec Ideal S4x262144 .f32) (b : Fin 4) (r s : Fin 512) :
    shapeCast S4x1x512x512 y shapeCasts_S4x262144_S4x1x512x512 (ix4 b (0 : Fin 1) r s)
      = y (ix2 b (⟨r.val * 512 + s.val, by omega⟩ : Fin 262144)) := by
  pointwise []

/-- The interpolated reference's result at a pixel, over any array holding the image's pixels. -/
theorem line_value (v : Pixels Ideal) (b : Fin 4) (q : Fin 262144) (px : ℕ → ℕ → ℝ) (h0 : ∀ b q, 0 ≤ px b q)
    (hv : ∀ q : Fin 262144, v (ix3 b q (0 : Fin 1)) = ((px b.val q.val : ℝ) : EReal)) :
    line v (levels (running (share (hist v)))) (ix2 b q) = ((equalised (histogram px b.val) (px b.val q.val) : ℝ) : EReal) :=
  line_apply v _ b q _ _ (h0 _ _)
    (fun j => levels_of _ b j _ (histogram_nonneg px b.val) fun k => hist_apply v b k (px b.val) hv) (hv q)

/-- The interpolated reference's result. -/
theorem result_value (x : FVec Ideal S4x1x512x512 .f32) (h : UnitImage x) : result x = equalisedImage x := by
  funext i
  obtain ⟨b, r, s, rfl⟩ := image_index i
  have hv : ∀ q : Fin 262144, shapeCast S4x262144x1 x shapeCasts_S4x1x512x512_S4x262144x1 (ix3 b q (0 : Fin 1))
      = ((pixel x b.val q.val : ℝ) : EReal) := fun q =>
    (flat_in x b q).trans (h.apply _ _ _ _ _ (by simp only; omega))
  unfold result
  generalize shapeCast S4x262144x1 x shapeCasts_S4x1x512x512_S4x262144x1 = v at hv
  rw [flat_out, line_value v b _ (pixel x) (fun b q => (h.pixel_mem b q).1) hv]
  show _ = ((equalised (histogram (pixel x) b.val) (pixel x b.val (512 * r.val + s.val)) : ℝ) : EReal)
  rw [Nat.mul_comm 512 r.val]

end Cert.Proof.Ref

end
-- ==== Proof.Whole.lean ====
/-
  reference.py's own value: its image looked up pixel by pixel, and the same as a real number. The reference program and
  the postcondition `near_reference` both hold this term.
-/
module

public import proofs.«01_k».proof.Proof.RefValue
public import proofs.«01_k».proof.Proof.Gen.ReferenceIdeal.Run
public import proofs.«01_k».proof.Proof.Gen.Post_near_reference
public import proofs.«01_k».proof.Proof.Gen.On_at_knots

@[expose] public section

noncomputable section

namespace Cert.Proof

open Idealize.ShloMosaic

/-- reference.py's image: every pixel looked up in its image's histogram. -/
def lookedUpImage (x : (⟨4, ![4, 1, 512, 512]⟩ : Shape).Idx → EReal) : (⟨4, ![4, 1, 512, 512]⟩ : Shape).Idx → EReal := fun i =>
  ((lookup (histogram (pixel x) (i 0).val) (pixel x (i 0).val (512 * (i 2).val + (i 3).val) * 255) : ℝ) : EReal)

/-- The image of the look-ups at an index. -/
theorem lookedUpImage_apply (x : (⟨4, ![4, 1, 512, 512]⟩ : Shape).Idx → EReal) (b : Fin 4) (r s : Fin 512) :
    lookedUpImage x (ix4 b (0 : Fin 1) r s)
      = ((lookup (histogram (pixel x) b.val) (pixel x b.val (512 * r.val + s.val) * 255) : ℝ) : EReal) := rfl

/-- The equalised image at an index. -/
theorem equalisedImage_apply (x : (⟨4, ![4, 1, 512, 512]⟩ : Shape).Idx → EReal) (b : Fin 4) (r s : Fin 512) :
    equalisedImage x (ix4 b (0 : Fin 1) r s)
      = ((equalised (histogram (pixel x) b.val) (pixel x b.val (512 * r.val + s.val)) : ℝ) : EReal) := rfl

namespace Ref

open Cert.InterpolatedIdeal Cert.InterpolatedIdeal.Gen
open Idealize.ShloMosaic.TcCoe

section

variable {F : FTy → Type} [FloatOps F]

/-- The whole of reference.py. -/
def whole (x : FVec F S4x1x512x512 .f32) : FVec F S4x1x512x512 .f32 :=
  let v : Pixels F := shapeCast _ x shapeCasts_S4x1x512x512_S4x262144x1
  shapeCast _ (lookedUp v (levels (running (share (hist v))))) shapeCasts_S4x262144_S4x1x512x512

/-- The reference program returns it. -/
theorem whole_eq (m : (ℓ : Loc Cert.ReferenceIdeal.nD Cert.ReferenceIdeal.τ Cert.ReferenceIdeal.sig) → Buf (Elt F) ℓ)
    (c : Dev Cert.ReferenceIdeal.nD) : Cert.ReferenceIdeal.Value.res_main_v38 m c
      = whole (m ((c.tc : Thread Cert.ReferenceIdeal.nD Cert.ReferenceIdeal.τ).loc Cert.ReferenceIdeal.main_arg0)) := rfl

/-- The postcondition compares with it. -/
theorem near_eq (x y : FVec F S4x1x512x512 .f32) : (letI := Cert.Post_near_reference.Gen.facts; Cert.Post_near_reference.fn x y)
    = cmpf .ole (Host.absf (subf y (whole x))) (broadcastInDim S4x1x512x512 ![] Cert.Post_near_reference.Gen.bcast_S_S4x1x512x512
        (constant S_ .f32 0x3A800000#32)) := rfl

end

/-- A look-up at a pixel, over any array holding the image's pixels. -/
theorem lookedUp_value (v : Pixels Ideal) (b : Fin 4) (q : Fin 262144) (px : ℕ → ℕ → ℝ)
    (hv : ∀ q : Fin 262144, v (ix3 b q (0 : Fin 1)) = ((px b.val q.val : ℝ) : EReal)) :
    lookedUp v (levels (running (share (hist v)))) (ix2 b q) = ((lookup (histogram px b.val) (px b.val q.val * 255) : ℝ) : EReal) :=
  lookedUp_apply v _ b q _ _
    (fun j => levels_of _ b j _ (histogram_nonneg px b.val) fun k => hist_apply v b k (px b.val) hv) (hv q)

/-- reference.py's result. -/
theorem whole_value (x : FVec Ideal S4x1x512x512 .f32) (h : UnitImage x) : whole x = lookedUpImage x := by
  funext i
  obtain ⟨b, r, s, rfl⟩ := image_index i
  have hv : ∀ q : Fin 262144, shapeCast S4x262144x1 x shapeCasts_S4x1x512x512_S4x262144x1 (ix3 b q (0 : Fin 1))
      = ((pixel x b.val q.val : ℝ) : EReal) := fun q =>
    (flat_in x b q).trans (h.apply _ _ _ _ _ (by simp only; omega))
  unfold whole
  generalize shapeCast S4x262144x1 x shapeCasts_S4x1x512x512_S4x262144x1 = v at hv
  rw [flat_out, lookedUp_value v b _ (pixel x) hv]
  show _ = ((lookup (histogram (pixel x) b.val) (pixel x b.val (512 * r.val + s.val) * 255) : ℝ) : EReal)
  rw [Nat.mul_comm 512 r.val]

end Ref

end Cert.Proof

end
-- ==== Proof.Spread.lean ====
/-
  How the weights of the bins at an intensity spread about it: their sum is bounded from below, their second moment from
  above, both by the few bins next to the intensity.
-/
module

public import proofs.«01_k».proof.Proof.Lookup

@[expose] public section

noncomputable section

namespace Cert.Proof

/-- The sum of the weights at `u`. -/
def total (u : ℝ) : ℝ := ∑ j ∈ Finset.range 256, bump u j

/-- The second moment of the weights at `u`, about `u`. -/
def spread (u : ℝ) : ℝ := ∑ j ∈ Finset.range 256, bump u j * ((j : ℝ) - u) ^ 2

/-- The weight of a bin at distance one. -/
def decay : ℝ := Real.exp (-(200 / 2601))

theorem decay_pow (n : ℕ) : decay ^ n = Real.exp (-(200 / 2601) * n) := by
  rw [decay, ← Real.exp_nat_mul]
  congr 1
  ring

theorem decay_ge : (923 / 1000 : ℝ) ≤ decay := by
  have := Real.one_sub_le_exp_neg (200 / 2601)
  unfold decay
  linarith

theorem decay_le : decay ≤ 9261 / 10000 := by
  have h := Real.quadratic_le_exp_of_nonneg (x := 200 / 2601) (by norm_num)
  unfold decay
  rw [Real.exp_neg]
  refine (inv_anti₀ (by norm_num) h).trans ?_
  norm_num

/-- A bin at a distance of at most `n` weighs at least the `n²`th power of the decay. -/
theorem bump_ge {u j : ℝ} (n : ℕ) (h : |j - u| ≤ n) : decay ^ (n ^ 2) ≤ bump u j := by
  rw [decay_pow, bump]
  refine Real.exp_le_exp.mpr ?_
  have := sq_le_sq' (by linarith [neg_abs_le (j - u), abs_nonneg (j - u)]) ((le_abs_self (j - u)).trans h)
  push_cast
  nlinarith

/-- What a bin at a distance between `n` and `n + 1` adds to the second moment at most. -/
def share2 (n : ℕ) : ℝ := (n + 1) ^ 2 * decay ^ (n ^ 2)

theorem share2_nonneg (n : ℕ) : 0 ≤ share2 n := by
  unfold share2 decay
  positivity

theorem moment_le {u j : ℝ} (n : ℕ) (h0 : (n : ℝ) ≤ |j - u|) (h1 : |j - u| ≤ n + 1) : bump u j * (j - u) ^ 2 ≤ share2 n := by
  have e0 : (n : ℝ) ^ 2 ≤ (j - u) ^ 2 := by
    rw [← sq_abs (j - u)]
    exact pow_le_pow_left₀ (by positivity) h0 2
  have e1 : (j - u) ^ 2 ≤ ((n : ℝ) + 1) ^ 2 := by
    rw [← sq_abs (j - u)]
    exact pow_le_pow_left₀ (abs_nonneg _) h1 2
  have hb : bump u j ≤ decay ^ (n ^ 2) := by
    rw [decay_pow, bump]
    refine Real.exp_le_exp.mpr ?_
    push_cast
    nlinarith
  rw [share2, mul_comm]
  exact mul_le_mul e1 hb (bump_pos u j).le (by positivity)

/-- Far from the intensity hardly anything is added. -/
theorem share2_far {n : ℕ} (h : 16 ≤ n) : share2 n ≤ 1 / 20000 := by
  have hn : (16 : ℝ) ≤ n := by exact_mod_cast h
  have hy := Real.pow_div_factorial_le_exp (200 / 2601 * (n : ℝ) ^ 2) (by positivity) 12
  have hd : decay ^ (n ^ 2) = (Real.exp (200 / 2601 * (n : ℝ) ^ 2))⁻¹ := by
    rw [decay_pow, ← Real.exp_neg]
    congr 1
    push_cast
    ring
  have hp : (16 : ℝ) ^ 22 ≤ (n : ℝ) ^ 22 := pow_le_pow_left₀ (by norm_num) hn 22
  have h1 : ((n : ℝ) + 1) ^ 2 ≤ (17 / 16) ^ 2 * (n : ℝ) ^ 2 := by nlinarith
  rw [share2, hd, ← div_eq_mul_inv, div_le_iff₀ (Real.exp_pos _)]
  refine h1.trans ?_
  have hfact : ((Nat.factorial 12 : ℕ) : ℝ) = 479001600 := by norm_num [Nat.factorial]
  rw [hfact] at hy
  have hpow : (200 / 2601 * (n : ℝ) ^ 2) ^ 12 = (200 / 2601) ^ 12 * (n : ℝ) ^ 22 * (n : ℝ) ^ 2 := by ring
  rw [hpow] at hy
  have hc : (17 / 16 : ℝ) ^ 2 * 20000 * 479001600 ≤ (200 / 2601) ^ 12 * 16 ^ 22 := by norm_num
  have hc' : (17 / 16 : ℝ) ^ 2 * 20000 * 479001600 ≤ (200 / 2601) ^ 12 * (n : ℝ) ^ 22 :=
    hc.trans (mul_le_mul_of_nonneg_left hp (by positivity))
  have := mul_le_mul_of_nonneg_right hc' (sq_nonneg (n : ℝ))
  linarith

/-- One side of the intensity. -/
theorem share2_sum : ∑ n ∈ Finset.range 256, share2 n ≤ 187 / 5 := by
  rw [show (256 : ℕ) = 16 + 240 from rfl, Finset.sum_range_add]
  have hfar : ∑ n ∈ Finset.range 240, share2 (16 + n) ≤ 240 * (1 / 20000) :=
    (Finset.sum_le_sum fun n _ => share2_far (Nat.le_add_right 16 n)).trans (by simp)
  have hnear : ∑ n ∈ Finset.range 16, share2 n ≤ ∑ n ∈ Finset.range 16, ((n : ℝ) + 1) ^ 2 * (9261 / 10000) ^ (n ^ 2) :=
    Finset.sum_le_sum fun n _ => mul_le_mul_of_nonneg_left
      (pow_le_pow_left₀ (Real.exp_pos _).le decay_le _) (by positivity)
  have hnum : ∑ n ∈ Finset.range 16, ((n : ℝ) + 1) ^ 2 * (9261 / 10000) ^ (n ^ 2) ≤ 3739 / 100 := by
    norm_num [Finset.sum_range_succ]
  linarith

/-- Every intensity lies between two bins. -/
theorem between {u : ℝ} (h0 : 0 ≤ u) (h1 : u ≤ 255) : ∃ k : ℕ, k < 255 ∧ (k : ℝ) ≤ u ∧ u ≤ k + 1 := by
  by_cases h : u < 255
  · exact ⟨⌊u⌋₊, (Nat.floor_lt h0).mpr (by exact_mod_cast h), Nat.floor_le h0, (Nat.lt_floor_add_one u).le⟩
  · exact ⟨254, by norm_num, by push_cast; linarith, by push_cast; linarith⟩

/-- The second moment is bounded. -/
theorem spread_le {u : ℝ} (h0 : 0 ≤ u) (h1 : u ≤ 255) : spread u ≤ 374 / 5 := by
  obtain ⟨k, hk, hl, hr⟩ := between h0 h1
  unfold spread
  rw [show (256 : ℕ) = (k + 1) + (255 - k) by omega, Finset.sum_range_add]
  have side : ∀ m ≤ 256, ∑ n ∈ Finset.range m, share2 n ≤ 187 / 5 := fun m hm =>
    (Finset.sum_le_sum_of_subset_of_nonneg (Finset.range_mono hm) fun n _ _ => share2_nonneg n).trans share2_sum
  have left : ∑ j ∈ Finset.range (k + 1), bump u j * ((j : ℝ) - u) ^ 2 ≤ 187 / 5 := by
    refine le_trans ?_ (side (k + 1) (by omega))
    rw [← Finset.sum_range_reflect]
    refine Finset.sum_le_sum fun n hn => ?_
    have hn' : n ≤ k := by have := Finset.mem_range.mp hn; omega
    have e : ((k + 1 - 1 - n : ℕ) : ℝ) = k - n := by rw [Nat.add_sub_cancel, Nat.cast_sub hn']
    have ha : |((k + 1 - 1 - n : ℕ) : ℝ) - u| = u - (k - n) := by
      rw [e, abs_sub_comm, abs_of_nonneg]
      have : (0 : ℝ) ≤ n := Nat.cast_nonneg n
      linarith
    exact moment_le n (by rw [ha]; linarith) (by rw [ha]; linarith)
  have right : ∑ n ∈ Finset.range (255 - k), bump u ((k + 1 + n : ℕ) : ℝ) * (((k + 1 + n : ℕ) : ℝ) - u) ^ 2 ≤ 187 / 5 := by
    refine le_trans (Finset.sum_le_sum fun n _ => ?_) (side (255 - k) (by omega))
    have ha : |((k + 1 + n : ℕ) : ℝ) - u| = k + 1 + n - u := by
      push_cast
      rw [abs_of_nonneg]
      have : (0 : ℝ) ≤ n := Nat.cast_nonneg n
      linarith
    exact moment_le n (by rw [ha]; linarith) (by rw [ha]; linarith)
  linarith

/-- Seven bins in a row, the first not farther than one from the intensity, the others on its other side. -/
theorem seven_le {u : ℝ} (c : ℕ → ℕ) (hc : Set.InjOn c (Finset.range 7)) (hr : ∀ n < 7, c n < 256) (h0 : |(c 0 : ℝ) - u| ≤ 1)
    (h : ∀ n < 7, 1 ≤ n → |(c n : ℝ) - u| ≤ n) : 1763 / 500 ≤ total u := by
  have hsub : (Finset.range 7).image c ⊆ Finset.range 256 := by
    intro j hj
    obtain ⟨n, hn, rfl⟩ := Finset.mem_image.mp hj
    exact Finset.mem_range.mpr (hr n (Finset.mem_range.mp hn))
  have hle : ∑ n ∈ Finset.range 7, bump u (c n) ≤ total u := by
    rw [← Finset.sum_image (f := fun j : ℕ => bump u j) hc]
    exact Finset.sum_le_sum_of_subset_of_nonneg hsub fun j _ _ => (bump_pos u j).le
  have hpow : ∀ n < 7, 1 ≤ n → (923 / 1000 : ℝ) ^ (n ^ 2) ≤ bump u (c n) := fun n hn hn1 =>
    (pow_le_pow_left₀ (by norm_num) decay_ge _).trans (bump_ge n (h n hn hn1))
  have hfirst : (923 / 1000 : ℝ) ^ (1 ^ 2) ≤ bump u (c 0) :=
    (pow_le_pow_left₀ (by norm_num) decay_ge _).trans (bump_ge 1 (by simpa using h0))
  rw [Finset.sum_range_succ', Finset.sum_range_succ, Finset.sum_range_succ, Finset.sum_range_succ, Finset.sum_range_succ,
    Finset.sum_range_succ, Finset.sum_range_one] at hle
  have h1 := hpow 1 (by norm_num) (by norm_num)
  have h2 := hpow 2 (by norm_num) (by norm_num)
  have h3 := hpow 3 (by norm_num) (by norm_num)
  have h4 := hpow 4 (by norm_num) (by norm_num)
  have h5 := hpow 5 (by norm_num) (by norm_num)
  have h6 := hpow 6 (by norm_num) (by norm_num)
  norm_num at hfirst h1 h2 h3 h4 h5 h6 hle
  linarith

/-- The sum of the weights is bounded from below. -/
theorem total_ge {u : ℝ} (h0 : 0 ≤ u) (h1 : u ≤ 255) : 1763 / 500 ≤ total u := by
  obtain ⟨k, hk, hl, hr⟩ := between h0 h1
  rcases Nat.lt_or_ge k 128 with h | h
  · refine seven_le (fun n => k + n) (fun a _ b _ hab => by simpa using hab) (fun n hn => by omega) ?_ fun n hn hn1 => ?_
    · rw [abs_le]
      push_cast
      constructor <;> linarith
    · have : (1 : ℝ) ≤ n := by exact_mod_cast hn1
      rw [abs_le]
      push_cast
      constructor <;> linarith
  · refine seven_le (fun n => k + 1 - n) (fun a ha b hb hab => ?_) (fun n hn => by omega) ?_ fun n hn hn1 => ?_
    · have := Finset.mem_range.mp (Finset.mem_coe.mp ha)
      have := Finset.mem_range.mp (Finset.mem_coe.mp hb)
      simp only at hab
      omega
    · rw [abs_le]
      push_cast
      constructor <;> linarith
    · have : (1 : ℝ) ≤ n := by exact_mod_cast hn1
      rw [abs_le, Nat.cast_sub (by omega)]
      push_cast
      constructor <;> linarith

/-- So the mean of the squared distance is. -/
theorem spread_le_total {u : ℝ} (h0 : 0 ≤ u) (h1 : u ≤ 255) : spread u ≤ 1061 / 50 * total u := by
  have := spread_le h0 h1
  have := total_ge h0 h1
  linarith

end Cert.Proof

end
-- ==== Proof.Chord.lean ====
/-
  A function whose second derivative is bounded by `M` lies within `M h² / 8` of the straight line between two of its
  points at distance `h`.
-/
module

public import Mathlib.Analysis.Calculus.Deriv.MeanValue
public import Mathlib.Analysis.Calculus.Deriv.Pow

@[expose] public section

noncomputable section

namespace Cert.Proof

/-- The mean value theorem, the quotient multiplied out. -/
theorem slope {f f1 : ℝ → ℝ} {a b : ℝ} (h : ∀ u, HasDerivAt f (f1 u) u) (hab : a < b) :
    ∃ c, a < c ∧ c < b ∧ f b - f a = f1 c * (b - a) := by
  obtain ⟨c, hc, e⟩ := exists_hasDerivAt_eq_slope f f1 hab (fun u _ => (h u).continuousAt.continuousWithinAt) fun u _ => h u
  exact ⟨c, hc.1, hc.2, by rw [e, div_mul_cancel₀ _ (sub_pos.mpr hab).ne']⟩

/-- With a second derivative of at least zero, the function lies below the line. -/
theorem below_chord {f f1 f2 : ℝ → ℝ} {a b : ℝ} (h1 : ∀ u, HasDerivAt f (f1 u) u) (h2 : ∀ u, HasDerivAt f1 (f2 u) u)
    (hf : ∀ u ∈ Set.Icc a b, 0 ≤ f2 u) (hab : a ≤ b) {t : ℝ} (t0 : 0 ≤ t) (t1 : t ≤ 1) :
    f (a + (b - a) * t) ≤ f a + (f b - f a) * t := by
  rcases hab.eq_or_lt with rfl | hab
  · simp
  rcases t0.eq_or_lt with rfl | t0
  · simp
  rcases t1.eq_or_lt with rfl | t1
  · simp
  have hb : 0 < b - a := sub_pos.mpr hab
  have hm := mul_pos hb t0
  have hm' := mul_pos hb (sub_pos.mpr t1)
  obtain ⟨c, hac, hcm, ec⟩ := slope h1 (show a < a + (b - a) * t by linarith)
  obtain ⟨d, hmd, hdb, ed⟩ := slope h1 (show a + (b - a) * t < b by linarith)
  obtain ⟨e, hce, hed, ee⟩ := slope h2 (hcm.trans hmd)
  have he := mul_nonneg (hf e ⟨by linarith, by linarith⟩) (sub_pos.mpr (hcm.trans hmd)).le
  have hp : 0 ≤ (b - a) * t * (1 - t) * (f1 d - f1 c) :=
    mul_nonneg (mul_nonneg hm.le (sub_pos.mpr t1).le) (by linarith)
  linear_combination (1 - t) * ec - t * ed + hp

/-- The bound from one side. -/
theorem sub_chord_le {f f1 f2 : ℝ → ℝ} {a b M : ℝ} (h1 : ∀ u, HasDerivAt f (f1 u) u) (h2 : ∀ u, HasDerivAt f1 (f2 u) u)
    (hf : ∀ u ∈ Set.Icc a b, -M ≤ f2 u) (hM : 0 ≤ M) (hab : a ≤ b) {t : ℝ} (t0 : 0 ≤ t) (t1 : t ≤ 1) :
    f (a + (b - a) * t) - (f a + (f b - f a) * t) ≤ M * (b - a) ^ 2 / 8 := by
  have e1 : ∀ u, HasDerivAt (fun u => f u + M / 2 * u ^ 2) (f1 u + M * u) u := fun u => by
    have := (h1 u).add ((hasDerivAt_pow 2 u).const_mul (M / 2))
    refine this.congr_deriv ?_
    norm_num
    ring
  have e2 : ∀ u, HasDerivAt (fun u => f1 u + M * u) (f2 u + M) u := fun u => by
    have := (h2 u).add ((hasDerivAt_id u).const_mul M)
    refine this.congr_deriv ?_
    ring
  have := below_chord e1 e2 (fun u hu => by linarith [hf u hu]) hab t0 t1
  have ht : t * (1 - t) ≤ 1 / 4 := by nlinarith [sq_nonneg (t - 1 / 2)]
  have hp : 0 ≤ M * (b - a) ^ 2 := by positivity
  have := mul_le_mul_of_nonneg_left ht hp
  linarith [show M / 2 * (a + (b - a) * t) ^ 2 = M / 2 * a ^ 2 + (M / 2 * b ^ 2 - M / 2 * a ^ 2) * t - M * (b - a) ^ 2 * (t * (1 - t)) / 2 by ring]

/-- The function is within the bound of the line. -/
theorem abs_sub_chord_le {f f1 f2 : ℝ → ℝ} {a b M : ℝ} (h1 : ∀ u, HasDerivAt f (f1 u) u) (h2 : ∀ u, HasDerivAt f1 (f2 u) u)
    (hf : ∀ u ∈ Set.Icc a b, |f2 u| ≤ M) (hab : a ≤ b) {t : ℝ} (t0 : 0 ≤ t) (t1 : t ≤ 1) :
    |f (a + (b - a) * t) - (f a + (f b - f a) * t)| ≤ M * (b - a) ^ 2 / 8 := by
  have hM : 0 ≤ M := (abs_nonneg _).trans (hf a (Set.left_mem_Icc.mpr hab))
  have up := sub_chord_le h1 h2 (fun u hu => (abs_le.mp (hf u hu)).1) hM hab t0 t1
  have dn := sub_chord_le (f := fun u => -f u) (f1 := fun u => -f1 u) (f2 := fun u => -f2 u) (fun u => (h1 u).neg) (fun u => (h2 u).neg)
    (fun u hu => by linarith [(abs_le.mp (hf u hu)).2]) hM hab t0 t1
  rw [abs_le]
  constructor <;> linarith

end Cert.Proof

end
-- ==== Proof.Curvature.lean ====
/-
  The weighted mean of numbers of the unit interval, as a function of the intensity at which the weights are taken: its
  first two derivatives, and a bound of the second by the weights' second moment.
-/
module

public import proofs.«01_k».proof.Proof.Spread
public import proofs.«01_k».proof.Proof.Chord
public import Mathlib.Analysis.SpecialFunctions.ExpDeriv

@[expose] public section

noncomputable section

namespace Cert.Proof

/-- The distances of the bins to `u` to the power of `n`, times their weights, times the numbers `L`. -/
def moment (L : ℕ → ℝ) (n : ℕ) (u : ℝ) : ℝ := ∑ j ∈ Finset.range 256, bump u j * ((j : ℝ) - u) ^ n * L j

theorem moment_sub (L : ℕ → ℝ) (g : ℝ) (n : ℕ) (u : ℝ) :
    moment L n u - g * moment (fun _ => 1) n u = ∑ j ∈ Finset.range 256, bump u j * ((j : ℝ) - u) ^ n * (L j - g) := by
  unfold moment
  rw [Finset.mul_sum, ← Finset.sum_sub_distrib]
  exact Finset.sum_congr rfl fun j _ => by ring

theorem moment_total (u : ℝ) : moment (fun _ => 1) 0 u = total u := by
  simp [moment, total]

theorem moment_spread (u : ℝ) : moment (fun _ => 1) 2 u = spread u := by
  simp [moment, spread]

theorem total_pos (u : ℝ) : 0 < total u := Finset.sum_pos (fun j _ => bump_pos u j) ⟨0, by simp⟩

/-! ## Derivatives -/

theorem hasDerivAt_bump (j u : ℝ) : HasDerivAt (fun u => bump u j) (400 / 2601 * (bump u j * (j - u))) u := by
  have h : HasDerivAt (fun u : ℝ => -(200 / 2601) * ((u - j) * (u - j))) (-(200 / 2601) * (1 * (u - j) + (u - j) * 1)) u :=
    (((hasDerivAt_id u).sub_const j).mul ((hasDerivAt_id u).sub_const j)).const_mul _
  refine h.exp.congr_deriv ?_
  rw [bump]
  ring

theorem hasDerivAt_moment_zero (L : ℕ → ℝ) (u : ℝ) : HasDerivAt (moment L 0) (400 / 2601 * moment L 1 u) u := by
  have h : HasDerivAt (fun u => ∑ j ∈ Finset.range 256, bump u j * L j)
      (∑ j ∈ Finset.range 256, 400 / 2601 * (bump u j * ((j : ℝ) - u)) * L j) u :=
    HasDerivAt.fun_sum fun j _ => (hasDerivAt_bump j u).mul_const (L j)
  have e : moment L 0 = fun u => ∑ j ∈ Finset.range 256, bump u j * L j := by
    funext u
    simp [moment]
  rw [e]
  refine h.congr_deriv ?_
  rw [moment, Finset.mul_sum]
  exact Finset.sum_congr rfl fun j _ => by ring

theorem hasDerivAt_moment_one (L : ℕ → ℝ) (u : ℝ) : HasDerivAt (moment L 1) (400 / 2601 * moment L 2 u - moment L 0 u) u := by
  have h : HasDerivAt (fun u => ∑ j ∈ Finset.range 256, bump u j * ((j : ℝ) - u) * L j)
      (∑ j ∈ Finset.range 256, (400 / 2601 * (bump u j * ((j : ℝ) - u)) * ((j : ℝ) - u) + bump u j * (-1)) * L j) u :=
    HasDerivAt.fun_sum fun j _ => ((hasDerivAt_bump j u).mul ((hasDerivAt_id u).const_sub (j : ℝ))).mul_const (L j)
  have e : moment L 1 = fun u => ∑ j ∈ Finset.range 256, bump u j * ((j : ℝ) - u) * L j := by
    funext u
    simp [moment]
  rw [e]
  refine h.congr_deriv ?_
  rw [moment, moment, Finset.mul_sum, ← Finset.sum_sub_distrib]
  exact Finset.sum_congr rfl fun j _ => by ring

/-- The weighted mean of the numbers `L`, -/
def mean (L : ℕ → ℝ) (u : ℝ) : ℝ := moment L 0 u / total u
/-- its derivative, -/
def mean1 (L : ℕ → ℝ) (u : ℝ) : ℝ := 400 / 2601 * (moment L 1 u - mean L u * moment (fun _ => 1) 1 u) / total u
/-- and its second derivative. -/
def mean2 (L : ℕ → ℝ) (u : ℝ) : ℝ :=
  (400 / 2601) ^ 2 * ((moment L 2 u - mean L u * moment (fun _ => 1) 2 u)
    - 2 * ((moment L 1 u - mean L u * moment (fun _ => 1) 1 u) / total u) * moment (fun _ => 1) 1 u) / total u

theorem hasDerivAt_total (u : ℝ) : HasDerivAt total (400 / 2601 * moment (fun _ => 1) 1 u) u := by
  have h := hasDerivAt_moment_zero (fun _ => 1) u
  rwa [show moment (fun _ => 1) 0 = total from funext moment_total] at h

theorem hasDerivAt_mean (L : ℕ → ℝ) (u : ℝ) : HasDerivAt (mean L) (mean1 L u) u := by
  have h0 := (total_pos u).ne'
  refine ((hasDerivAt_moment_zero L u).div (hasDerivAt_total u) h0).congr_deriv ?_
  rw [mean1, mean]
  field_simp

theorem hasDerivAt_mean1 (L : ℕ → ℝ) (u : ℝ) : HasDerivAt (mean1 L) (mean2 L u) u := by
  have h0 := (total_pos u).ne'
  have hm := (((hasDerivAt_moment_one L u).sub ((hasDerivAt_mean L u).mul (hasDerivAt_moment_one (fun _ => 1) u))).const_mul
    (400 / 2601 : ℝ)).div (hasDerivAt_total u) h0
  refine hm.congr_deriv ?_
  have e : moment L 0 u = mean L u * total u := by
    rw [mean]
    field_simp
  rw [Pi.sub_apply, Pi.mul_apply, mean2, mean1, moment_total, e]
  field_simp
  ring

/-! ## The bound -/

theorem mean_mem {L : ℕ → ℝ} (hL : ∀ j < 256, 0 ≤ L j ∧ L j ≤ 1) (u : ℝ) : 0 ≤ mean L u ∧ mean L u ≤ 1 := by
  have h0 := total_pos u
  have e : moment L 0 u = ∑ j ∈ Finset.range 256, bump u j * L j := by simp [moment]
  unfold mean
  rw [e]
  refine ⟨div_nonneg (Finset.sum_nonneg fun j hj => mul_nonneg (bump_pos u j).le (hL j (Finset.mem_range.mp hj)).1) h0.le,
    (div_le_one h0).mpr (Finset.sum_le_sum fun j hj => mul_le_of_le_one_right (bump_pos u j).le (hL j (Finset.mem_range.mp hj)).2)⟩

/-- The second derivative is bounded by the mean of the squared distances. -/
theorem abs_mean2_le {L : ℕ → ℝ} (hL : ∀ j < 256, 0 ≤ L j ∧ L j ≤ 1) (u : ℝ) :
    |mean2 L u| ≤ (400 / 2601) ^ 2 * (spread u / total u) := by
  have h0 := total_pos u
  obtain ⟨g0, g1⟩ := mean_mem hL u
  set g := mean L u with hg
  set c := moment (fun _ => 1) 1 u / total u with hc
  have hc1 : moment (fun _ => 1) 1 u = c * total u := by rw [hc]; field_simp
  have z : ∑ j ∈ Finset.range 256, bump u j * (L j - g) = 0 := by
    have := moment_sub L g 0 u
    rw [moment_total, hg, mean, div_mul_cancel₀ _ h0.ne', sub_self] at this
    rw [hg, mean, this]
    exact Finset.sum_congr rfl fun j _ => by ring
  have key : (moment L 2 u - g * moment (fun _ => 1) 2 u) - 2 * ((moment L 1 u - g * moment (fun _ => 1) 1 u) / total u) * moment (fun _ => 1) 1 u
      = ∑ j ∈ Finset.range 256, bump u j * ((j : ℝ) - u - c) ^ 2 * (L j - g) := by
    have e : ∑ j ∈ Finset.range 256, bump u j * ((j : ℝ) - u - c) ^ 2 * (L j - g)
        = ∑ j ∈ Finset.range 256, bump u j * ((j : ℝ) - u) ^ 2 * (L j - g)
          - 2 * c * ∑ j ∈ Finset.range 256, bump u j * ((j : ℝ) - u) ^ 1 * (L j - g) + c ^ 2 * ∑ j ∈ Finset.range 256, bump u j * (L j - g) := by
      rw [Finset.mul_sum, Finset.mul_sum, ← Finset.sum_sub_distrib, ← Finset.sum_add_distrib]
      exact Finset.sum_congr rfl fun j _ => by ring
    rw [e, z, ← moment_sub, ← moment_sub, hc]
    field_simp
    ring
  have sq : ∑ j ∈ Finset.range 256, bump u j * ((j : ℝ) - u - c) ^ 2 ≤ spread u := by
    have e : ∑ j ∈ Finset.range 256, bump u j * ((j : ℝ) - u - c) ^ 2
        = moment (fun _ => 1) 2 u - 2 * c * moment (fun _ => 1) 1 u + c ^ 2 * moment (fun _ => 1) 0 u := by
      unfold moment
      rw [Finset.mul_sum, Finset.mul_sum, ← Finset.sum_sub_distrib, ← Finset.sum_add_distrib]
      exact Finset.sum_congr rfl fun j _ => by ring
    rw [e, moment_spread, moment_total, hc1]
    have : 0 ≤ c ^ 2 * total u := by positivity
    linarith
  have hle : |∑ j ∈ Finset.range 256, bump u j * ((j : ℝ) - u - c) ^ 2 * (L j - g)| ≤ spread u := by
    refine (Finset.abs_sum_le_sum_abs _ _).trans (le_trans (Finset.sum_le_sum fun j hj => ?_) sq)
    have hw : 0 ≤ bump u j * ((j : ℝ) - u - c) ^ 2 := mul_nonneg (bump_pos u j).le (sq_nonneg _)
    rw [abs_mul, abs_of_nonneg hw]
    refine mul_le_of_le_one_right hw ?_
    obtain ⟨l0, l1⟩ := hL j (Finset.mem_range.mp hj)
    rw [abs_le]
    constructor <;> linarith
  rw [mean2, key, abs_div, abs_mul, abs_of_pos h0, abs_of_nonneg (by positivity : (0 : ℝ) ≤ (400 / 2601) ^ 2), mul_div_assoc]
  exact mul_le_mul_of_nonneg_left (div_le_div_of_nonneg_right hle h0.le) (by positivity)

end Cert.Proof

end
-- ==== Proof.Near.lean ====
/-
  How far an equalised pixel is from reference.py's: by less than 1/1024, the look-up being a weighted mean the curvature
  of which is bounded; and not at all at a knot.
-/
module

public import proofs.«01_k».proof.Proof.Curvature
public import proofs.«01_k».proof.Proof.Equalised

@[expose] public section

noncomputable section

namespace Cert.Proof

variable {H : ℕ → ℝ}

/-- The levels lie in the unit interval. -/
theorem level_mem (hH : ∀ k, 0 ≤ H k) (j : ℕ) (hj : j < 256) : 0 ≤ level H j ∧ level H j ≤ 1 := by
  have hm := mass_pos hH
  have hs := span_pos hH
  have mono : ∀ n m, n ≤ m → ∑ k ∈ Finset.range n, H k ≤ ∑ k ∈ Finset.range m, H k := fun n m h =>
    Finset.sum_le_sum_of_subset_of_nonneg (Finset.range_mono h) fun k _ _ => hH k
  have h0 : cum H 0 ≤ cum H j := div_le_div_of_nonneg_right (mono _ _ (by omega)) hm.le
  have h1 : cum H j ≤ 1 := (div_le_one hm).mpr (by linarith [mono (j + 1) 256 (by omega), eps_pos])
  exact ⟨div_nonneg (by linarith) hs.le, (div_le_one hs).mpr (by linarith [eps_pos])⟩

/-- The look-up falls short of the weighted mean of the levels by `eps` at most. -/
theorem lookup_near_mean (hH : ∀ k, 0 ≤ H k) {u : ℝ} (h0 : 0 ≤ u) (h1 : u ≤ 255) :
    mean (level H) u - eps ≤ lookup H u ∧ lookup H u ≤ mean (level H) u := by
  have ht := total_ge h0 h1
  have he := eps_pos
  obtain ⟨m0, m1⟩ := mean_mem (level_mem hH) u
  have e : lookup H u = mean (level H) u * total u / (total u + eps) := by
    rw [mean, div_mul_cancel₀ _ (total_pos u).ne', lookup, total, moment]
    simp only [pow_zero, mul_one]
  have hp : 0 < total u + eps := by linarith
  rw [e]
  constructor
  · rw [le_div_iff₀ hp]
    nlinarith [mul_nonneg m0 he.le]
  · rw [div_le_iff₀ hp]
    nlinarith [mul_nonneg m0 he.le]

/-- Between two knots the weighted mean stays near the straight line. -/
theorem mean_near_line (hH : ∀ k, 0 ≤ H k) {n : ℕ} (hn : n < 2048) {t : ℝ} (t0 : 0 ≤ t) (t1 : t ≤ 1) :
    |mean (level H) (((n : ℝ) + t) * (255 / 2048))
      - (mean (level H) ((n : ℝ) * (255 / 2048))
        + (mean (level H) (((n + 1 : ℕ) : ℝ) * (255 / 2048)) - mean (level H) ((n : ℝ) * (255 / 2048))) * t)|
      ≤ (400 / 2601) ^ 2 * (1061 / 50) * (255 / 2048) ^ 2 / 8 := by
  have hn' : (n : ℝ) + 1 ≤ 2048 := by exact_mod_cast hn
  have hn0 : (0 : ℝ) ≤ n := Nat.cast_nonneg n
  have h := abs_sub_chord_le (a := (n : ℝ) * (255 / 2048)) (b := ((n + 1 : ℕ) : ℝ) * (255 / 2048))
    (M := (400 / 2601) ^ 2 * (1061 / 50)) (hasDerivAt_mean (level H)) (hasDerivAt_mean1 (level H)) (fun u hu => ?_)
    (by push_cast; linarith) t0 t1
  · convert h using 4
    · push_cast
      ring
    · push_cast
      ring
  · have hu1 := hu.2
    push_cast at hu1
    have u0 : 0 ≤ u := le_trans (by positivity) hu.1
    have u1 : u ≤ 255 := by linarith
    exact (abs_mean2_le (level_mem hH) u).trans (mul_le_mul_of_nonneg_left
      ((div_le_iff₀ (total_pos u)).mpr (spread_le_total u0 u1)) (by positivity))

/-- An equalised pixel is within 1/1024 of the pixel looked up. -/
theorem equalised_near (hH : ∀ k, 0 ≤ H k) {p : ℝ} (h0 : 0 ≤ p) (h1 : p < 1) :
    |equalised H p - lookup H (p * 255)| ≤ 1 / 1024 := by
  have hn := knotBelow_lt h0 h1
  have hlo : (knotBelow p : ℝ) ≤ p * 2048 := Nat.floor_le (by positivity)
  have hhi : p * 2048 < knotBelow p + 1 := Nat.lt_floor_add_one _
  rw [equalised]
  generalize knotBelow p = n at hn hlo hhi
  obtain ⟨t, ht⟩ : ∃ t, t = p * 2048 - n := ⟨_, rfl⟩
  have t0 : 0 ≤ t := by linarith
  have t1 : t ≤ 1 := by linarith
  have hn' : (n : ℝ) + 1 ≤ 2048 := by exact_mod_cast hn
  have hn0 : (0 : ℝ) ≤ n := Nat.cast_nonneg n
  have hp : p * 255 = ((n : ℝ) + t) * (255 / 2048) := by rw [ht]; ring
  have a1 := abs_le.mp (mean_near_line hH hn t0 t1)
  have a2 := lookup_near_mean hH (u := ((n : ℝ) + t) * (255 / 2048)) (by positivity) (by linarith)
  have a3 := lookup_near_mean hH (u := (n : ℝ) * (255 / 2048)) (by positivity) (by linarith)
  have a4 := lookup_near_mean hH (u := ((n + 1 : ℕ) : ℝ) * (255 / 2048)) (by positivity) (by push_cast; linarith)
  rw [← ht, hp, atKnot, atKnot]
  have he : eps ≤ 1 / 1000000000 := by norm_num [eps]
  have s0 : 0 ≤ 1 - t := by linarith
  have b1 := mul_le_mul_of_nonneg_right a3.1 s0
  have b2 := mul_le_mul_of_nonneg_right a3.2 s0
  have b3 := mul_le_mul_of_nonneg_right a4.1 t0
  have b4 := mul_le_mul_of_nonneg_right a4.2 t0
  have hM : ((400 / 2601) ^ 2 * (1061 / 50) * (255 / 2048) ^ 2 / 8 : ℝ) ≤ 1 / 1024 - 2 / 1000000000 := by norm_num
  rw [abs_le]
  constructor <;> linarith

/-- At a knot an equalised pixel is the pixel looked up. -/
theorem equalised_at_knot {p : ℝ} (h : (knotBelow p : ℝ) = p * 2048) : equalised H p = lookup H (p * 255) := by
  rw [equalised, h, sub_self, mul_zero, add_zero, atKnot, h]
  congr 1
  ring

end Cert.Proof

end
-- ==== Proof.Equality.lean ====
/-
  On an image of the unit interval, all computed with exact real arithmetic: v03 and the interpolated reference return the
  same image; v03 returns reference.py's pixel at every pixel that is a multiple of 1/2048; and it is within 1/1024 of
  reference.py's image everywhere.
-/
module

public import proofs.«01_k».proof.Proof.KernelValue
public import proofs.«01_k».proof.Proof.Whole
public import proofs.«01_k».proof.Proof.Near
public import proofs.«01_k».proof.Proof.Gen.Pre_unit_range
public import proofs.«01_k».proof.Defs
public import Idealize.ShloMosaic.Lib.ReduceAll
public import Idealize.ShloMosaic.Lib.Affine

@[expose] public section

noncomputable section

namespace Cert.Proof

open Idealize.ShloMosaic Idealize.ShloMosaic.TcCoe Idealize.SL.Sem

instance : Subsingleton Cert.Pre_unit_range.S_.Idx := ⟨fun _ _ => funext fun a => a.elim0⟩

/-- A comparison's bit set, the comparison holds. -/
theorem of_bit {p : Prop} [Decidable p] (h : BitVec.ofBool (decide p) = 1#1) : p := by
  by_contra hn
  simp [hn] at h

/-- The precondition says that the image is one of the unit interval. -/
theorem unitImage_of_pre (x : FVec Ideal Cert.Pre_unit_range.S4x1x512x512 .f32)
    (h : (letI := Cert.Pre_unit_range.Gen.facts; Cert.Pre_unit_range.fn (F := Ideal) x) = fun _ => 1#1) : UnitImage x := by
  intro i
  have h2 : IntOp.andi (Ideal.cmp .oge (x i) (Ideal.ofBits .f32 0x00000000#32)) (Ideal.cmp .olt (x i) (Ideal.ofBits .f32 0x3F800000#32))
      = 1#1 := Host.reduce_andi_all _ _ _ _ ix0 (congrFun h ix0) i
  have h0 : Ideal.ofBits .f32 0x00000000#32 = ((0 : ℝ) : EReal) := by
    simp [Ideal.ofBits, Ideal.ieee]
  rw [word_1, h0] at h2
  obtain ⟨ha, hb⟩ := IntOp.andi_eq_one.mp h2
  exact ⟨of_bit ha, of_bit hb⟩

/-- v03 and the interpolated reference return the same image. -/
theorem equal_results : letI := Cert.KernelIdeal.Gen.facts; letI := Cert.InterpolatedIdeal.Gen.facts; letI := Cert.Pre_unit_range.Gen.facts
    Cert.algebraic_KernelIdeal_InterpolatedIdeal_pre_unit_range := by
  intro m g m' g' hpre harg
  have hx := fun c => unitImage_of_pre _ (hpre c)
  refine ⟨fun c => equalisedImage (m ((c.tc : Thread Cert.KernelIdeal.nD Cert.KernelIdeal.τ).loc Cert.KernelIdeal.main_arg0)), ?_, ?_⟩
  · refine (θ_run _ _ _).mono (fun r h c => ⟨(h.1 c).2.trans (Ideal.atEnd_value m c (hx c)), (h.1 c).1⟩) (Ideal.run (F := Ideal) m g)
  · refine (θ_run _ _ _).mono (fun r h c => ⟨(h c).1.trans ?_, (h c).2⟩) (Cert.InterpolatedIdeal.Value.run (F := Ideal) m' g')
    rw [Ref.result_eq, harg c]
    exact Ref.result_value _ (hx c)

/-- Where the mask is set, the pixel is a knot. -/
theorem knot_of_mask (x : FVec Ideal Cert.On_at_knots.S4x1x512x512 .f32) (hx : UnitImage x) (b : Fin 4) (r s : Fin 512)
    (h : (letI := Cert.On_at_knots.Gen.facts; Cert.On_at_knots.fn (F := Ideal) x) (ix4 b (0 : Fin 1) r s) = 1#1) :
    (knotBelow (pixel x b.val (512 * r.val + s.val)) : ℝ) = pixel x b.val (512 * r.val + s.val) * 2048 := by
  have h2 : Ideal.liftRound (fun q => ⌊q⌋) (x (ix4 b (0 : Fin 1) r s) * Ideal.ofBits .f32 0x45000000#32)
      = x (ix4 b (0 : Fin 1) r s) * Ideal.ofBits .f32 0x45000000#32 := of_bit h
  rw [hx.apply b 0 r s _ rfl, word_2048, ← EReal.coe_mul, Ideal.liftRound_coe, knotBelow_floor (hx.pixel_mem _ _).1, Int.cast_natCast] at h2
  exact EReal.coe_injective h2

/-- v03 and reference.py return the same pixel wherever the image holds a multiple of 1/2048. -/
theorem equal_at_knots : letI := Cert.KernelIdeal.Gen.facts; letI := Cert.ReferenceIdeal.Gen.facts; letI := Cert.Pre_unit_range.Gen.facts
    letI := Cert.On_at_knots.Gen.facts; Cert.algebraic_KernelIdeal_ReferenceIdeal_on_at_knots_pre_unit_range := by
  intro m g m' g' hpre harg
  have hx := fun c => unitImage_of_pre _ (hpre c)
  refine ⟨fun c => lookedUpImage (m ((c.tc : Thread Cert.KernelIdeal.nD Cert.KernelIdeal.τ).loc Cert.KernelIdeal.main_arg0)), ?_, ?_⟩
  · refine (θ_run _ _ _).mono (fun r h c => ⟨fun i hi => ?_, (h.1 c).1⟩) (Ideal.run (F := Ideal) m g)
    rw [(h.1 c).2, Ideal.atEnd_value m c (hx c)]
    obtain ⟨b, p, q, rfl⟩ := image_index i
    show _ = lookedUpImage _ _
    rw [equalisedImage_apply, lookedUpImage_apply, equalised_at_knot (knot_of_mask _ (hx c) b p q hi)]
  · refine (θ_run _ _ _).mono (fun r h c => ⟨fun i _ => ?_, (h c).2⟩) (Cert.ReferenceIdeal.Value.run (F := Ideal) m' g')
    rw [(h c).1, Ref.whole_eq, harg c]
    exact congrFun (Ref.whole_value _ (hx c)) i

/-- The tolerance. -/
theorem word_tolerance : Ideal.ofBits .f32 0x3A800000#32 = ((1 / 1024 : ℝ) : EReal) := by
  simp [Ideal.ofBits, Ideal.ieee, -EReal.coe_mul]; norm_num

/-- Everywhere v03's pixel is within 1/1024 of reference.py's. -/
theorem near_reference : letI := Cert.KernelIdeal.Gen.facts; letI := Cert.Pre_unit_range.Gen.facts
    letI := Cert.Post_near_reference.Gen.facts; Cert.holds_KernelIdeal_near_reference_pre_unit_range := by
  intro m g hpre
  have hx := fun c => unitImage_of_pre _ (hpre c)
  refine (θ_run _ _ _).mono (fun r h c => ⟨(h.1 c).1, ?_⟩) (Ideal.run (F := Ideal) m g)
  rw [(h.1 c).2, Ideal.atEnd_value m c (hx c)]
  refine (Ref.near_eq _ _).trans ?_
  have hw := Ref.whole_value _ (hx c)
  have hp := (hx c).pixel_mem
  generalize m ((c.tc : Thread Cert.KernelIdeal.nD Cert.KernelIdeal.τ).loc Cert.KernelIdeal.main_arg0) = x at hw hp ⊢
  funext i
  obtain ⟨b, p, q, rfl⟩ := image_index i
  have hle := equalised_near (histogram_nonneg (pixel x) b.val) (hp b.val (512 * p.val + q.val)).1 (hp b.val (512 * p.val + q.val)).2
  rw [hw]
  have hbit : max (equalisedImage x (ix4 b (0 : Fin 1) p q) - lookedUpImage x (ix4 b (0 : Fin 1) p q))
      (-(equalisedImage x (ix4 b (0 : Fin 1) p q) - lookedUpImage x (ix4 b (0 : Fin 1) p q))) ≤ Ideal.ofBits .f32 0x3A800000#32 := by
    rw [equalisedImage_apply, lookedUpImage_apply, ← EReal.coe_sub, word_tolerance, ← EReal.coe_neg]
    exact max_le (EReal.coe_le_coe_iff.mpr ((le_abs_self _).trans hle)) (EReal.coe_le_coe_iff.mpr ((neg_le_abs _).trans hle))
  exact congrArg BitVec.ofBool (decide_eq_true hbit)

end Cert.Proof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_unit_range
public import proofs.«01_k».proof.Proof.Frames
public import proofs.«01_k».proof.Proof.Equality
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InterpolatedIdeal.Gen.facts, Cert.Pre_unit_range.Gen.facts, Cert.Post_near_reference.Gen.facts, Cert.On_at_knots.Gen.facts,
  frame_kernel, frame_ideal, frame_ideal_pre, frame_reference, frame_reference_pre, frame_interpolated, frame_interpolated_pre,
  preserves, equal_results, equal_at_knots, near_reference⟩

end Cert.Proof

end
